-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S1024x512 : Shape := ⟨2, ![1024, 512]⟩
abbrev S2x5x2 : Shape := ⟨3, ![2, 5, 2]⟩
abbrev S_ : Shape := ⟨0, ![]⟩
abbrev S128x256 : Shape := ⟨2, ![128, 256]⟩
abbrev S256x256 : Shape := ⟨2, ![256, 256]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S1024x512, .bf16⟩
  | .local _ .vmem, ⟨4, _⟩ => ⟨S1024x512, .bf16⟩
  | .local _ .vmem, ⟨5, _⟩ => ⟨S512x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3 : BitVec 32 := 3#32
  let v8 : BitVec 32 := Scalar.addi v2 c3_i32_3
  let c2_i32 : BitVec 32 := 2#32
  let c3_i32 : BitVec 32 := 3#32
  let v7 : BitVec 32 := Scalar.andi v2 c3_i32
  let v9 : BitVec 32 := Scalar.muli c2_i32 v7
  let v10 : BitVec 32 := Scalar.subi v8 v9
  let c1_i32_5 : BitVec 32 := 1#32
  let v11 : BitVec 32 := Scalar.muli v10 c1_i32_5
  let v12 : BitVec 32 := Scalar.addi c0_i32_6 v11
  v12.toNat
def k0_dev3 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_8 : BitVec 32 := 1#32
  let v14 : BitVec 32 := Scalar.muli v13 c1_i32_8
  let v15 : BitVec 32 := Scalar.addi c0_i32_9 v14
  v15.toNat
def k0_dev4 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_11 : BitVec 32 := 1#32
  let v17 : BitVec 32 := Scalar.muli v16 c1_i32_11
  let v18 : BitVec 32 := Scalar.addi c0_i32_12 v17
  v18.toNat
def k0_off1 (d0 : Dev nD) (c2_i32_13 : BitVec 32) (c0_i32_24 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v19 : BitVec 32 := Scalar.andi v2 c2_i32_13
  let c0_i32_14 : BitVec 32 := 0#32
  let v20 : BitVec 1 := Scalar.cmpi .sgt v19 c0_i32_14
  let c0_i32_15 : BitVec 32 := 0#32
  let c256_i32 : BitVec 32 := 256#32
  let v21 : BitVec 32 := Scalar.select v20 c0_i32_15 c256_i32
  let v27 : BitVec 32 := Scalar.addi v21 c0_i32_24
  let v28 : Index := Scalar.indexCast v27
  let c0 : Index := 0#32
  ![v28.toNat, 0]
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_31 : BitVec 32 := 3#32
  let v39 : BitVec 32 := Scalar.addi v2 c3_i32_31
  let c2_i32_32 : BitVec 32 := 2#32
  let c3_i32_30 : BitVec 32 := 3#32
  let v38 : BitVec 32 := Scalar.andi v2 c3_i32_30
  let v40 : BitVec 32 := Scalar.muli c2_i32_32 v38
  let v41 : BitVec 32 := Scalar.subi v39 v40
  let c1_i32_39 : BitVec 32 := 1#32
  let v42 : BitVec 32 := Scalar.muli v41 c1_i32_39
  let v43 : BitVec 32 := Scalar.addi c0_i32_40 v42
  v43.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_51 : BitVec 32 := 4#32
  let v61 : BitVec 32 := Scalar.xori v2 c4_i32_51
  let c1_i32_58 : BitVec 32 := 1#32
  let v62 : BitVec 32 := Scalar.muli v61 c1_i32_58
  let v63 : BitVec 32 := Scalar.addi c0_i32_59 v62
  v63.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_70 : BitVec 32 := 3#32
  let v82 : BitVec 32 := Scalar.addi v2 c3_i32_70
  let c2_i32_71 : BitVec 32 := 2#32
  let c3_i32_69 : BitVec 32 := 3#32
  let v81 : BitVec 32 := Scalar.andi v2 c3_i32_69
  let v83 : BitVec 32 := Scalar.muli c2_i32_71 v81
  let v84 : BitVec 32 := Scalar.subi v82 v83
  let c1_i32_78 : BitVec 32 := 1#32
  let v85 : BitVec 32 := Scalar.muli v84 c1_i32_78
  let v86 : BitVec 32 := Scalar.addi c0_i32_79 v85
  v86.toNat
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_91 : BitVec 32 := 4#32
  let v104 : BitVec 32 := Scalar.xori v2 c4_i32_91
  let c1_i32_98 : BitVec 32 := 1#32
  let v105 : BitVec 32 := Scalar.muli v104 c1_i32_98
  let v106 : BitVec 32 := Scalar.addi c0_i32_99 v105
  v106.toNat
def k0_off2 (d0 : Dev nD) (c2_i32_13 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v19 : BitVec 32 := Scalar.andi v2 c2_i32_13
  let c0_i32_14 : BitVec 32 := 0#32
  let v20 : BitVec 1 := Scalar.cmpi .sgt v19 c0_i32_14
  let c256_i32_16 : BitVec 32 := 256#32
  let c0_i32_17 : BitVec 32 := 0#32
  let v22 : BitVec 32 := Scalar.select v20 c256_i32_16 c0_i32_17
  let v113 : Index := Scalar.indexCast v22
  let c0_104 : Index := 0#32
  ![v113.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_13 : BitVec 32 := 2#32
  let v19 : BitVec 32 := Scalar.andi v2 c2_i32_13
  let c0_i32_14 : BitVec 32 := 0#32
  let v20 : BitVec 1 := Scalar.cmpi .sgt v19 c0_i32_14
  let c256_i32_16 : BitVec 32 := 256#32
  let c0_i32_17 : BitVec 32 := 0#32
  let v22 : BitVec 32 := Scalar.select v20 c256_i32_16 c0_i32_17
  let v119 : Index := Scalar.indexCast v22
  let c0_108 : Index := 0#32
  ![v119.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_18 : BitVec 32 := 4#32
  let v23 : BitVec 32 := Scalar.andi v2 c4_i32_18
  let c0_i32_19 : BitVec 32 := 0#32
  let v24 : BitVec 1 := Scalar.cmpi .sgt v23 c0_i32_19
  let c256_i32_22 : BitVec 32 := 256#32
  let c0_i32_23 : BitVec 32 := 0#32
  let v26 : BitVec 32 := Scalar.select v24 c256_i32_22 c0_i32_23
  let v127 : Index := Scalar.indexCast v26
  let c256_113 : Index := 256#32
  ![v127.toNat, 256]
def k0_off5 (d0 : Dev nD) (c0_i32_114 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_13 : BitVec 32 := 2#32
  let v19 : BitVec 32 := Scalar.andi v2 c2_i32_13
  let c0_i32_14 : BitVec 32 := 0#32
  let v20 : BitVec 1 := Scalar.cmpi .sgt v19 c0_i32_14
  let c256_i32_16 : BitVec 32 := 256#32
  let c0_i32_17 : BitVec 32 := 0#32
  let v22 : BitVec 32 := Scalar.select v20 c256_i32_16 c0_i32_17
  let v129 : BitVec 32 := Scalar.addi v22 c0_i32_114
  let v136 : Index := Scalar.indexCast v129
  let c0_127 : Index := 0#32
  ![v136.toNat, 0]
def k0_dev9 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_133 : BitVec 32 := 4#32
  let v148 : BitVec 32 := Scalar.xori v2 c4_i32_133
  let c1_i32_140 : BitVec 32 := 1#32
  let v149 : BitVec 32 := Scalar.muli v148 c1_i32_140
  let v150 : BitVec 32 := Scalar.addi c0_i32_141 v149
  v150.toNat
def k0_off6 (d0 : Dev nD) (c0_i32_146 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_18 : BitVec 32 := 4#32
  let v23 : BitVec 32 := Scalar.andi v2 c4_i32_18
  let c0_i32_19 : BitVec 32 := 0#32
  let v24 : BitVec 1 := Scalar.cmpi .sgt v23 c0_i32_19
  let c256_i32_22 : BitVec 32 := 256#32
  let c0_i32_23 : BitVec 32 := 0#32
  let v26 : BitVec 32 := Scalar.select v24 c256_i32_22 c0_i32_23
  let v157 : BitVec 32 := Scalar.addi v26 c0_i32_146
  let v164 : Index := Scalar.indexCast v157
  let c256_159 : Index := 256#32
  ![v164.toNat, 256]
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_166 : BitVec 32 := 3#32
  let v177 : BitVec 32 := Scalar.addi v2 c3_i32_166
  let c2_i32_167 : BitVec 32 := 2#32
  let c3_i32_165 : BitVec 32 := 3#32
  let v176 : BitVec 32 := Scalar.andi v2 c3_i32_165
  let v178 : BitVec 32 := Scalar.muli c2_i32_167 v176
  let v179 : BitVec 32 := Scalar.subi v177 v178
  let c1_i32_174 : BitVec 32 := 1#32
  let v180 : BitVec 32 := Scalar.muli v179 c1_i32_174
  let v181 : BitVec 32 := Scalar.addi c0_i32_175 v180
  v181.toNat
def k0_dev11 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_198 : BitVec 32 := 4#32
  let v207 : BitVec 32 := Scalar.xori v2 c4_i32_198
  let c1_i32_205 : BitVec 32 := 1#32
  let v208 : BitVec 32 := Scalar.muli v207 c1_i32_205
  let v209 : BitVec 32 := Scalar.addi c0_i32_206 v208
  v209.toNat
def k0_dev12 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_230 : BitVec 32 := 3#32
  let v236 : BitVec 32 := Scalar.addi v2 c3_i32_230
  let c2_i32_231 : BitVec 32 := 2#32
  let c3_i32_229 : BitVec 32 := 3#32
  let v235 : BitVec 32 := Scalar.andi v2 c3_i32_229
  let v237 : BitVec 32 := Scalar.muli c2_i32_231 v235
  let v238 : BitVec 32 := Scalar.subi v236 v237
  let c1_i32_238 : BitVec 32 := 1#32
  let v239 : BitVec 32 := Scalar.muli v238 c1_i32_238
  let v240 : BitVec 32 := Scalar.addi c0_i32_239 v239
  v240.toNat
def k0_dev13 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_262 : BitVec 32 := 1#32
  let v266 : BitVec 32 := Scalar.xori v2 c1_i32_262
  let c1_i32_269 : BitVec 32 := 1#32
  let v267 : BitVec 32 := Scalar.muli v266 c1_i32_269
  let v268 : BitVec 32 := Scalar.addi c0_i32_270 v267
  v268.toNat
def k0_dev14 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_293 : BitVec 32 := 8#32
  let v294 : BitVec 32 := Scalar.xori v2 c8_i32_293
  let c1_i32_300 : BitVec 32 := 1#32
  let v295 : BitVec 32 := Scalar.muli v294 c1_i32_300
  let v296 : BitVec 32 := Scalar.addi c0_i32_301 v295
  v296.toNat
def k0_dev15 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_324 : BitVec 32 := 1#32
  let v322 : BitVec 32 := Scalar.xori v2 c1_i32_324
  let c1_i32_331 : BitVec 32 := 1#32
  let v323 : BitVec 32 := Scalar.muli v322 c1_i32_331
  let v324 : BitVec 32 := Scalar.addi c0_i32_332 v323
  v324.toNat
def k0_dev16 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_355 : BitVec 32 := 8#32
  let v350 : BitVec 32 := Scalar.xori v2 c8_i32_355
  let c1_i32_362 : BitVec 32 := 1#32
  let v351 : BitVec 32 := Scalar.muli v350 c1_i32_362
  let v352 : BitVec 32 := Scalar.addi c0_i32_363 v351
  v352.toNat
def k0_dev17 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_386 : BitVec 32 := 8#32
  let v378 : BitVec 32 := Scalar.xori v2 c8_i32_386
  let c1_i32_393 : BitVec 32 := 1#32
  let v379 : BitVec 32 := Scalar.muli v378 c1_i32_393
  let v380 : BitVec 32 := Scalar.addi c0_i32_394 v379
  v380.toNat
def k0_dev18 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_417 : BitVec 32 := 1#32
  let v406 : BitVec 32 := Scalar.xori v2 c1_i32_417
  let c1_i32_424 : BitVec 32 := 1#32
  let v407 : BitVec 32 := Scalar.muli v406 c1_i32_424
  let v408 : BitVec 32 := Scalar.addi c0_i32_425 v407
  v408.toNat
def k0_dev19 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_448 : BitVec 32 := 8#32
  let v434 : BitVec 32 := Scalar.xori v2 c8_i32_448
  let c1_i32_455 : BitVec 32 := 1#32
  let v435 : BitVec 32 := Scalar.muli v434 c1_i32_455
  let v436 : BitVec 32 := Scalar.addi c0_i32_456 v435
  v436.toNat
def k0_dev20 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_479 : BitVec 32 := 1#32
  let v462 : BitVec 32 := Scalar.xori v2 c1_i32_479
  let c1_i32_486 : BitVec 32 := 1#32
  let v463 : BitVec 32 := Scalar.muli v462 c1_i32_486
  let v464 : BitVec 32 := Scalar.addi c0_i32_487 v463
  v464.toNat
def k0_off7 (d0 : Dev nD) (c0_i32_492 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_13 : BitVec 32 := 2#32
  let v19 : BitVec 32 := Scalar.andi v2 c2_i32_13
  let c0_i32_14 : BitVec 32 := 0#32
  let v20 : BitVec 1 := Scalar.cmpi .sgt v19 c0_i32_14
  let c256_i32_16 : BitVec 32 := 256#32
  let c0_i32_17 : BitVec 32 := 0#32
  let v22 : BitVec 32 := Scalar.select v20 c256_i32_16 c0_i32_17
  let v471 : BitVec 32 := Scalar.addi v22 c0_i32_492
  let c0_i32_520 : BitVec 32 := 0#32
  ![v471.toNat, 0]
def k0_dev21 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_509 : BitVec 32 := 3#32
  let v485 : BitVec 32 := Scalar.addi v2 c3_i32_509
  let c2_i32_510 : BitVec 32 := 2#32
  let c3_i32_508 : BitVec 32 := 3#32
  let v484 : BitVec 32 := Scalar.andi v2 c3_i32_508
  let v486 : BitVec 32 := Scalar.muli c2_i32_510 v484
  let v487 : BitVec 32 := Scalar.subi v485 v486
  let c1_i32_518 : BitVec 32 := 1#32
  let v493 : BitVec 32 := Scalar.muli v487 c1_i32_518
  let v494 : BitVec 32 := Scalar.addi c0_i32_519 v493
  v494.toNat
def k0_off8 (d0 : Dev nD) (c0_i32_522 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_18 : BitVec 32 := 4#32
  let v23 : BitVec 32 := Scalar.andi v2 c4_i32_18
  let c0_i32_19 : BitVec 32 := 0#32
  let v24 : BitVec 1 := Scalar.cmpi .sgt v23 c0_i32_19
  let c256_i32_22 : BitVec 32 := 256#32
  let c0_i32_23 : BitVec 32 := 0#32
  let v26 : BitVec 32 := Scalar.select v24 c256_i32_22 c0_i32_23
  let v501 : BitVec 32 := Scalar.addi v26 c0_i32_522
  let c256_i32_548 : BitVec 32 := 256#32
  ![v501.toNat, 256]
def k0_dev22 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_538 : BitVec 32 := 4#32
  let v514 : BitVec 32 := Scalar.xori v2 c4_i32_538
  let c1_i32_546 : BitVec 32 := 1#32
  let v520 : BitVec 32 := Scalar.muli v514 c1_i32_546
  let v521 : BitVec 32 := Scalar.addi c0_i32_547 v520
  v521.toNat
def k0_dev23 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_567 : BitVec 32 := 3#32
  let v542 : BitVec 32 := Scalar.addi v2 c3_i32_567
  let c2_i32_568 : BitVec 32 := 2#32
  let c3_i32_566 : BitVec 32 := 3#32
  let v541 : BitVec 32 := Scalar.andi v2 c3_i32_566
  let v543 : BitVec 32 := Scalar.muli c2_i32_568 v541
  let v544 : BitVec 32 := Scalar.subi v542 v543
  let c1_i32_576 : BitVec 32 := 1#32
  let v550 : BitVec 32 := Scalar.muli v544 c1_i32_576
  let v551 : BitVec 32 := Scalar.addi c0_i32_577 v550
  v551.toNat
def k0_dev24 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_596 : BitVec 32 := 4#32
  let v571 : BitVec 32 := Scalar.xori v2 c4_i32_596
  let c1_i32_604 : BitVec 32 := 1#32
  let v577 : BitVec 32 := Scalar.muli v571 c1_i32_604
  let v578 : BitVec 32 := Scalar.addi c0_i32_605 v577
  v578.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S512x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Geom.lean ====
/-
# The blocks that the kernel works on

A device's two scratch arrays for the first four exchanges (`commM`, which partners write, and `sendM`, which this
device writes and sends) are 1024 x 512 bfloat16 arrays, cut in 8 x 2 blocks of 128 rows and 256 columns. The array of
the last exchange (`gathM`) and the result's staging array (`outM`) are 512 x 512, cut in 4 x 2 such blocks. A transfer
is named by a column half, one of five exchanges and one of two chunks of 128 rows (`Msg`). This module names the
partners, the blocks, the semaphores and the device each transfer goes to, and gives the closed forms of the offsets and
devices that the program computes from its own number.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.HyperSum

open Cert.KernelIdeal Cert.KernelIdeal.Gen
open Idealize.ShloMosaic Idealize.ShloMosaic.TcCoe
open Idealize.SL Idealize.SL.Sem

/-! ## Partners -/

/-- A transfer: its column half, its exchange (0 to 4) and its chunk of rows. -/
abbrev Msg : Type := Fin 2 × Fin 5 × Fin 2

/-- The partner of a device in each of the four directions: its number with one or two bits turned over. -/
def part (k : Fin 4) (c : Dev nD) : Dev nD :=
  ⟨Nat.xor c.val (match k with | 0 => 1 | 1 => 3 | 2 => 4 | 3 => 8), by revert k c; decide⟩

theorem part_part (k : Fin 4) (c : Dev nD) : part k (part k c) = c := by revert k c; decide
theorem part_ne (k : Fin 4) (c : Dev nD) : part k c ≠ c := by revert k c; decide

/-- Turning the bits of a direction over, as a permutation of the devices. -/
def turn (k : Fin 4) : Dev nD ≃ Dev nD := ⟨part k, part k, part_part k, part_part k⟩

/-- The direction of a column half's exchange. -/
def cls (h : Fin 2) (s : Fin 5) : Fin 4 :=
  match h, s with
  | 0, 0 => 1 | 0, 1 => 2 | 0, 2 => 0 | 0, 3 => 3 | 0, 4 => 1
  | 1, 0 => 2 | 1, 1 => 1 | 1, 2 => 3 | 1, 3 => 0 | 1, 4 => 2

/-- The device that exchanges a transfer with `c`. -/
def peer (c : Dev nD) (j : Msg) : Dev nD := part (cls j.1 j.2.1) c

theorem peer_peer (c : Dev nD) (j : Msg) : peer (peer c j) j = c := part_part _ _

/-- Which half of the rows a device keeps of a column half: bit 1 of its number for the left half, bit 2 for the right. -/
def bit (h : Fin 2) (c : Dev nD) : Fin 2 :=
  match h with
  | 0 => ⟨c.val / 2 % 2, Nat.mod_lt _ (by decide)⟩
  | 1 => ⟨c.val / 4 % 2, Nat.mod_lt _ (by decide)⟩

/-- Block row `2 b + ch` of a 512-row array. -/
def row4 (b ch : Fin 2) : Fin 4 := ⟨2 * b.val + ch.val, by omega⟩
/-- Block row `2 s + ch` of a 1024-row array. -/
def row8 (s : Fin 4) (ch : Fin 2) : Fin 8 := ⟨2 * s.val + ch.val, by omega⟩

/-- The block row that device `c` keeps of column half `h`, chunk `ch`; -/
def kept (h : Fin 2) (c : Dev nD) (ch : Fin 2) : Fin 4 := row4 (bit h c) ch
/-- and the one it sends away. -/
def away (h : Fin 2) (c : Dev nD) (ch : Fin 2) : Fin 4 := row4 (1 - bit h c) ch

theorem away_eq (c : Dev nD) (h ch : Fin 2) : away h c ch = kept h (peer c (h, 0, ch)) ch := by revert c h ch; decide
theorem kept_peer_mid (c : Dev nD) (h ch : Fin 2) (s : Fin 5) (h0 : s ≠ 0) (h4 : s ≠ 4) :
    kept h (peer c (h, s, ch)) ch = kept h c ch := by revert c h ch s; decide
theorem kept_peer_last (c : Dev nD) (h ch : Fin 2) : kept h (peer c (h, 4, ch)) ch = away h c ch := by revert c h ch; decide

/-! ## Arrays -/

abbrev aM : Memref sig .tc .vmem S512x256 .f32 := Memref.whole cc0_stg0_0
abbrev bM : Memref sig .tc .vmem S256x512 .f32 := Memref.whole cc0_stg1_0
abbrev outM : Memref sig .tc .vmem S512x512 .f32 := Memref.whole cc0_stg2_0
abbrev commM : Memref sig .tc .vmem S1024x512 .bf16 := Memref.whole cc0_scratch0
abbrev sendM : Memref sig .tc .vmem S1024x512 .bf16 := Memref.whole cc0_scratch1
abbrev gathM : Memref sig .tc .vmem S512x512 .bf16 := Memref.whole cc0_scratch2

/-! ## Blocks -/

theorem inb8 (i : Fin 8) (h : Fin 2) : ∀ a, (![128 * i.val, 256 * h.val] : Fin 2 → Nat) a + S128x256.size a ≤ S1024x512.size a := by
  revert i h; decide
theorem inb4 (i : Fin 4) (h : Fin 2) : ∀ a, (![128 * i.val, 256 * h.val] : Fin 2 → Nat) a + S128x256.size a ≤ S512x512.size a := by
  revert i h; decide
theorem inbQ (b h : Fin 2) : ∀ a, (![256 * b.val, 256 * h.val] : Fin 2 → Nat) a + S256x256.size a ≤ S512x512.size a := by
  revert b h; decide
theorem inbArow (i : Fin 4) : ∀ a, (![128 * i.val, 0] : Fin 2 → Nat) a + S128x256.size a ≤ S512x256.size a := by
  revert i; decide
theorem inbAhalf (b : Fin 2) : ∀ a, (![256 * b.val, 0] : Fin 2 → Nat) a + S256x256.size a ≤ S512x256.size a := by
  revert b; decide
theorem inbBhalf (h : Fin 2) : ∀ a, (![0, 256 * h.val] : Fin 2 → Nat) a + S256x256.size a ≤ S256x512.size a := by
  revert h; decide

/-- Block `(i, h)` of a 1024 x 512 array, of a 512 x 512 array; quadrant `(b, h)` of a 512 x 512 array. -/
abbrev rect8 (i : Fin 8) (h : Fin 2) : Rect S1024x512 := Rect.unit (s := S1024x512) ![128 * i.val, 256 * h.val] S128x256.size (inb8 i h)
abbrev rect4 (i : Fin 4) (h : Fin 2) : Rect S512x512 := Rect.unit (s := S512x512) ![128 * i.val, 256 * h.val] S128x256.size (inb4 i h)
abbrev rectQ (b h : Fin 2) : Rect S512x512 := Rect.unit (s := S512x512) ![256 * b.val, 256 * h.val] S256x256.size (inbQ b h)
/-- 128 rows and 256 rows of a 512 x 256 array; 256 columns of a 256 x 512 array. -/
abbrev rectArow (i : Fin 4) : Rect S512x256 := Rect.unit (s := S512x256) ![128 * i.val, 0] S128x256.size (inbArow i)
abbrev rectAhalf (b : Fin 2) : Rect S512x256 := Rect.unit (s := S512x256) ![256 * b.val, 0] S256x256.size (inbAhalf b)
abbrev rectBhalf (h : Fin 2) : Rect S256x512 := Rect.unit (s := S256x512) ![0, 256 * h.val] S256x256.size (inbBhalf h)

abbrev commB (i : Fin 8) (h : Fin 2) : Memref sig .tc .vmem S128x256 .bf16 := commM.slice (rect8 i h) (fun _ => rfl)
abbrev sendB (i : Fin 8) (h : Fin 2) : Memref sig .tc .vmem S128x256 .bf16 := sendM.slice (rect8 i h) (fun _ => rfl)
abbrev gathB (i : Fin 4) (h : Fin 2) : Memref sig .tc .vmem S128x256 .bf16 := gathM.slice (rect4 i h) (fun _ => rfl)
abbrev outB (i : Fin 4) (h : Fin 2) : Memref sig .tc .vmem S128x256 .f32 := outM.slice (rect4 i h) (fun _ => rfl)
abbrev outQ (b h : Fin 2) : Memref sig .tc .vmem S256x256 .f32 := outM.slice (rectQ b h) (fun _ => rfl)

/-- The block that device `c` sends in a transfer, -/
def srcM (c : Dev nD) (j : Msg) : Memref sig .tc .vmem S128x256 .bf16 :=
  if hs : j.2.1.val < 4 then sendB (row8 ⟨j.2.1.val, hs⟩ j.2.2) j.1 else gathB (kept j.1 c j.2.2) j.1
/-- and the block of its partner in which it lands. -/
def dstM (c : Dev nD) (j : Msg) : Memref sig .tc .vmem S128x256 .bf16 :=
  if hs : j.2.1.val < 4 then commB (row8 ⟨j.2.1.val, hs⟩ j.2.2) j.1 else gathB (kept j.1 c j.2.2) j.1

/-! ## Semaphores -/

theorem inbSem (j : Msg) : ∀ a, (![j.1.val, j.2.1.val, j.2.2.val] : Fin 3 → Nat) a + S1x1x1.size a ≤ S2x5x2.size a := by
  revert j; decide

/-- The sending semaphore of a transfer, its landing semaphore, and the barrier semaphore. -/
abbrev sendS (j : Msg) : DmaSems sig S_ :=
  (cc0_scratch3.slice (Rect.unit (s := S2x5x2) ![j.1.val, j.2.1.val, j.2.2.val] S1x1x1.size (inbSem j))).squeeze S_ squeezes_S1x1x1_S_
abbrev recvS (j : Msg) : DmaSems sig S_ :=
  (cc0_scratch4.slice (Rect.unit (s := S2x5x2) ![j.1.val, j.2.1.val, j.2.2.val] S1x1x1.size (inbSem j))).squeeze S_ squeezes_S1x1x1_S_
abbrev barS : Sem sig := (SemArray.scalar (sig.barrier 0 rfl) : Sems sig S_).sem

/-! ## What the program computes from its own number -/

theorem dev1 (c : Dev nD) : (⟨k0_dev1 c, k0_dev1_lt c⟩ : Dev nD) = part 0 c := by revert c; decide
theorem dev2 (c : Dev nD) : (⟨k0_dev2 c, k0_dev2_lt c⟩ : Dev nD) = part 1 c := by revert c; decide
theorem dev3 (c : Dev nD) : (⟨k0_dev3 c, k0_dev3_lt c⟩ : Dev nD) = part 2 c := by revert c; decide
theorem dev4 (c : Dev nD) : (⟨k0_dev4 c, k0_dev4_lt c⟩ : Dev nD) = part 3 c := by revert c; decide
theorem dev5 (c : Dev nD) : (⟨k0_dev5 c, k0_dev5_lt c⟩ : Dev nD) = peer c (0, 0, 0) := by revert c; decide
theorem dev6 (c : Dev nD) : (⟨k0_dev6 c, k0_dev6_lt c⟩ : Dev nD) = peer c (1, 0, 0) := by revert c; decide
theorem dev7 (c : Dev nD) : (⟨k0_dev7 c, k0_dev7_lt c⟩ : Dev nD) = peer c (0, 0, 1) := by revert c; decide
theorem dev8 (c : Dev nD) : (⟨k0_dev8 c, k0_dev8_lt c⟩ : Dev nD) = peer c (1, 0, 1) := by revert c; decide
theorem dev9 (c : Dev nD) : (⟨k0_dev9 c, k0_dev9_lt c⟩ : Dev nD) = peer c (0, 1, 0) := by revert c; decide
theorem dev10 (c : Dev nD) : (⟨k0_dev10 c, k0_dev10_lt c⟩ : Dev nD) = peer c (1, 1, 0) := by revert c; decide
theorem dev11 (c : Dev nD) : (⟨k0_dev11 c, k0_dev11_lt c⟩ : Dev nD) = peer c (0, 1, 1) := by revert c; decide
theorem dev12 (c : Dev nD) : (⟨k0_dev12 c, k0_dev12_lt c⟩ : Dev nD) = peer c (1, 1, 1) := by revert c; decide
theorem dev13 (c : Dev nD) : (⟨k0_dev13 c, k0_dev13_lt c⟩ : Dev nD) = peer c (0, 2, 0) := by revert c; decide
theorem dev14 (c : Dev nD) : (⟨k0_dev14 c, k0_dev14_lt c⟩ : Dev nD) = peer c (1, 2, 0) := by revert c; decide
theorem dev15 (c : Dev nD) : (⟨k0_dev15 c, k0_dev15_lt c⟩ : Dev nD) = peer c (0, 2, 1) := by revert c; decide
theorem dev16 (c : Dev nD) : (⟨k0_dev16 c, k0_dev16_lt c⟩ : Dev nD) = peer c (1, 2, 1) := by revert c; decide
theorem dev17 (c : Dev nD) : (⟨k0_dev17 c, k0_dev17_lt c⟩ : Dev nD) = peer c (0, 3, 0) := by revert c; decide
theorem dev18 (c : Dev nD) : (⟨k0_dev18 c, k0_dev18_lt c⟩ : Dev nD) = peer c (1, 3, 0) := by revert c; decide
theorem dev19 (c : Dev nD) : (⟨k0_dev19 c, k0_dev19_lt c⟩ : Dev nD) = peer c (0, 3, 1) := by revert c; decide
theorem dev20 (c : Dev nD) : (⟨k0_dev20 c, k0_dev20_lt c⟩ : Dev nD) = peer c (1, 3, 1) := by revert c; decide
theorem dev21 (c : Dev nD) : (⟨k0_dev21 c, k0_dev21_lt c⟩ : Dev nD) = peer c (0, 4, 0) := by revert c; decide
theorem dev22 (c : Dev nD) : (⟨k0_dev22 c, k0_dev22_lt c⟩ : Dev nD) = peer c (1, 4, 0) := by revert c; decide
theorem dev23 (c : Dev nD) : (⟨k0_dev23 c, k0_dev23_lt c⟩ : Dev nD) = peer c (0, 4, 1) := by revert c; decide
theorem dev24 (c : Dev nD) : (⟨k0_dev24 c, k0_dev24_lt c⟩ : Dev nD) = peer c (1, 4, 1) := by revert c; decide

/-- The rows of the left factor that a device multiplies for its partner, and for itself. -/
theorem off1 (c : Dev nD) (h ch : Fin 2) :
    k0_off1 c (BitVec.ofNat 32 (2 + 2 * h.val)) (BitVec.ofNat 32 (128 * ch.val)) = ![128 * (away h c ch).val, 0] := by
  revert c h ch; decide
theorem off2 (c : Dev nD) (h : Fin 2) : k0_off2 c (BitVec.ofNat 32 (2 + 2 * h.val)) = ![256 * (bit h c).val, 0] := by
  revert c h; decide
/-- The quadrants and blocks of the result and of the last exchange that a device works on. -/
theorem off3 (c : Dev nD) : k0_off3 c = ![256 * (bit 0 c).val, 256 * (0 : Fin 2).val] := by revert c; decide
theorem off4 (c : Dev nD) : k0_off4 c = ![256 * (bit 1 c).val, 256 * (1 : Fin 2).val] := by revert c; decide
theorem off5 (c : Dev nD) (ch : Fin 2) : k0_off5 c (BitVec.ofNat 32 (128 * ch.val)) = ![128 * (kept 0 c ch).val, 256 * (0 : Fin 2).val] := by
  revert c ch; decide
theorem off6 (c : Dev nD) (ch : Fin 2) : k0_off6 c (BitVec.ofNat 32 (128 * ch.val)) = ![128 * (kept 1 c ch).val, 256 * (1 : Fin 2).val] := by
  revert c ch; decide
theorem off7 (c : Dev nD) (ch : Fin 2) : k0_off7 c (BitVec.ofNat 32 (128 * ch.val)) = ![128 * (kept 0 c ch).val, 256 * (0 : Fin 2).val] := by
  revert c ch; decide
theorem off8 (c : Dev nD) (ch : Fin 2) : k0_off8 c (BitVec.ofNat 32 (128 * ch.val)) = ![128 * (kept 1 c ch).val, 256 * (1 : Fin 2).val] := by
  revert c ch; decide

end Cert.HyperSum

end
-- ==== Proof.Flat.lean ====
/-
# The kernel's body, piece by piece

The body as a sequence of pieces, each of them for one transfer or for one block: filling a block for the first
exchange, starting a transfer, waiting for a landing, adding what landed, and waiting for a transfer's source to be free.
The pieces are first written with the offsets and devices that the program computes (the printed body is that program
by unfolding), and then with their closed forms.
-/
module

public import proofs.«01_k».proof.Proof.Geom

@[expose] public section

noncomputable section

namespace Cert.HyperSum

open Cert.KernelIdeal Cert.KernelIdeal.Gen
open Idealize.ShloMosaic Idealize.ShloMosaic.TcCoe
open Idealize.SL Idealize.SL.Sem

variable {F : FTy → Type} [FloatOps F]

/-! ## What the pieces need to know of the blocks -/

theorem words8 (i : Fin 8) (h : Fin 2) : (rect8 i h).WholeWords (EltTy.packing .bf16) := by revert i h; decide
theorem packed8 (i : Fin 8) (h : Fin 2) : (rect8 i h).PackedRows (EltTy.packing .bf16) := by revert i h; decide
theorem words4 (i : Fin 4) (h : Fin 2) : (rect4 i h).WholeWords (EltTy.packing .bf16) := by revert i h; decide
theorem packed4 (i : Fin 4) (h : Fin 2) : (rect4 i h).PackedRows (EltTy.packing .bf16) := by revert i h; decide

/-! ## Payloads -/

/-- The bfloat16 product of 128 rows of the left factor and 256 columns of the right one. -/
abbrev fillV (a : Vec F S128x256 .f32) (b : Vec F S256x256 .f32) : FVec F S128x256 .bf16 := k0_pay1 a b
/-- The product of 256 rows and 256 columns. -/
abbrev keepV (a : Vec F S256x256 .f32) (b : Vec F S256x256 .f32) : FVec F S256x256 .f32 := k0_pay6 a b
/-- A block's new sum, and the same rounded to bfloat16. -/
abbrev sumV (v : Vec F S128x256 .f32) (w : Vec F S128x256 .bf16) : FVec F S128x256 .f32 := k0_pay9 (k0_pay8 v) w
abbrev roundV (v : Vec F S128x256 .f32) (w : Vec F S128x256 .bf16) : FVec F S128x256 .bf16 := k0_pay10 (k0_pay8 v) w
/-- The result: the gathered array widened, negative entries replaced by zero. -/
abbrev finV (g : Vec F S512x512 .bf16) : FVec F S512x512 .f32 := k0_pay43 g

/-! ## Pieces -/

/-- Fill block `(ch, h)` of the sending array for the first exchange. -/
def pFill (off : Fin 2 → Nat) (inb : ∀ a, off a + S128x256.size a ≤ S512x256.size a) (h ch : Fin 2) : Prog (TpuEff nD τ sig (Elt F) Λ₀ .tc) PUnit := do
  let a : Vec F S128x256 .f32 ← Prog.lift (.load aM (Rect.unit (s := S512x256) off S128x256.size inb).toLoadRect (View.loadsAt_vmem h_S128x256))
  let b : Vec F S256x256 .f32 ← Prog.lift (.load bM (rectBhalf h).toLoadRect (View.loadsAt_vmem h_S256x256))
  let _ : Vec F S128x256 .bf16 ← Prog.lift (.load sendM (rect8 (row8 0 ch) h).toLoadRect (View.loadsAt_vmem h_S128x256))
  Prog.lift (.store sendM (rect8 (row8 0 ch) h) (fillV a b) Finset.univ
    (View.stores_vmem h_S128x256 ((Memref.isWhole_whole cc0_scratch1).storeExact_slice rfl _ (packed8 _ h)) (fun _ => rfl)) (.inl rfl))

/-- Start a transfer of one of the first four exchanges to device `n`. -/
def pPut8 (n : Dev nD) (h : Fin 2) (s : Fin 4) (ch : Fin 2) : Prog (TpuEff nD τ sig (Elt F) Λ₀ .tc) PUnit :=
  Prog.lift (.enqueueDma (sendB (row8 s ch) h) (.remote (Dev.tc n) (commB (row8 s ch) h) (.dma (sendS (h, s.castSucc, ch)).sem)) (.dma (recvS (h, s.castSucc, ch)).sem)
    ((Memref.isWhole_whole cc0_scratch1).wordExact_slice rfl _ (words8 _ h)) ((Memref.isWhole_whole cc0_scratch0).wordExact_slice rfl _ (words8 _ h)) ⟨⟨rfl, Or.inl rfl⟩, trivial⟩)

/-- Start a transfer of the last exchange to device `n`. -/
def pPut4 (n : Dev nD) (off : Fin 2 → Nat) (inb : ∀ a, off a + S128x256.size a ≤ S512x512.size a)
    (hw : (Rect.unit (s := S512x512) off S128x256.size inb).WholeWords (EltTy.packing .bf16)) (h ch : Fin 2) : Prog (TpuEff nD τ sig (Elt F) Λ₀ .tc) PUnit :=
  Prog.lift (.enqueueDma (gathM.slice (Rect.unit (s := S512x512) off S128x256.size inb) (fun _ => rfl))
    (.remote (Dev.tc n) (gathM.slice (Rect.unit (s := S512x512) off S128x256.size inb) (fun _ => rfl)) (.dma (sendS (h, 4, ch)).sem)) (.dma (recvS (h, 4, ch)).sem)
    ((Memref.isWhole_whole cc0_scratch2).wordExact_slice rfl _ hw) ((Memref.isWhole_whole cc0_scratch2).wordExact_slice rfl _ hw) ⟨⟨rfl, Or.inl rfl⟩, trivial⟩)

/-- Wait for a landing of one of the first four exchanges; -/
def pTake8 (h : Fin 2) (s : Fin 4) (ch : Fin 2) : Prog (TpuEff nD τ sig (Elt F) Λ₀ .tc) PUnit :=
  Prog.lift (.waitDma2 (recvS (h, s.castSucc, ch)).sem (sendB (row8 s ch) h) (commB (row8 s ch) h)
    ((Memref.isWhole_whole cc0_scratch1).wordExact_slice rfl _ (words8 _ h)) ((Memref.isWhole_whole cc0_scratch0).wordExact_slice rfl _ (words8 _ h)))
/-- of the last one; -/
def pTake4 (off : Fin 2 → Nat) (inb : ∀ a, off a + S128x256.size a ≤ S512x512.size a)
    (hw : (Rect.unit (s := S512x512) off S128x256.size inb).WholeWords (EltTy.packing .bf16)) (h ch : Fin 2) : Prog (TpuEff nD τ sig (Elt F) Λ₀ .tc) PUnit :=
  Prog.lift (.waitDma2 (recvS (h, 4, ch)).sem (gathM.slice (Rect.unit (s := S512x512) off S128x256.size inb) (fun _ => rfl))
    (gathM.slice (Rect.unit (s := S512x512) off S128x256.size inb) (fun _ => rfl))
    ((Memref.isWhole_whole cc0_scratch2).wordExact_slice rfl _ hw) ((Memref.isWhole_whole cc0_scratch2).wordExact_slice rfl _ hw))
/-- wait until a source may be written again: of the first four exchanges, -/
def pBack8 (h : Fin 2) (s : Fin 4) (ch : Fin 2) : Prog (TpuEff nD τ sig (Elt F) Λ₀ .tc) PUnit :=
  Prog.lift (.waitDma2 (sendS (h, s.castSucc, ch)).sem (commB (row8 s ch) h) (sendB (row8 s ch) h)
    ((Memref.isWhole_whole cc0_scratch0).wordExact_slice rfl _ (words8 _ h)) ((Memref.isWhole_whole cc0_scratch1).wordExact_slice rfl _ (words8 _ h)))
/-- and of the last one. -/
def pBack4 (off : Fin 2 → Nat) (inb : ∀ a, off a + S128x256.size a ≤ S512x512.size a)
    (hw : (Rect.unit (s := S512x512) off S128x256.size inb).WholeWords (EltTy.packing .bf16)) (h ch : Fin 2) : Prog (TpuEff nD τ sig (Elt F) Λ₀ .tc) PUnit :=
  Prog.lift (.waitDma2 (sendS (h, 4, ch)).sem (gathM.slice (Rect.unit (s := S512x512) off S128x256.size inb) (fun _ => rfl))
    (gathM.slice (Rect.unit (s := S512x512) off S128x256.size inb) (fun _ => rfl))
    ((Memref.isWhole_whole cc0_scratch2).wordExact_slice rfl _ hw) ((Memref.isWhole_whole cc0_scratch2).wordExact_slice rfl _ hw))

/-- The product of the rows that the device keeps, into a quadrant of the result. -/
def pKeep (offA : Fin 2 → Nat) (inbA : ∀ a, offA a + S256x256.size a ≤ S512x256.size a)
    (off : Fin 2 → Nat) (inb : ∀ a, off a + S256x256.size a ≤ S512x512.size a) (h : Fin 2) : Prog (TpuEff nD τ sig (Elt F) Λ₀ .tc) PUnit := do
  let a : Vec F S256x256 .f32 ← Prog.lift (.load aM (Rect.unit (s := S512x256) offA S256x256.size inbA).toLoadRect (View.loadsAt_vmem h_S256x256))
  let b : Vec F S256x256 .f32 ← Prog.lift (.load bM (rectBhalf h).toLoadRect (View.loadsAt_vmem h_S256x256))
  let _ : Vec F S256x256 .f32 ← Prog.lift (.load outM (Rect.unit (s := S512x512) off S256x256.size inb).toLoadRect (View.loadsAt_vmem h_S256x256))
  Prog.lift (.store outM (Rect.unit (s := S512x512) off S256x256.size inb) (keepV a b) Finset.univ (View.stores_vmem_bits_univ h_S256x256 rfl) (.inl rfl))

/-- Add what landed in one of the first three exchanges to a block of the result, and fill the next exchange's block. -/
def pAdd (off : Fin 2 → Nat) (inb : ∀ a, off a + S128x256.size a ≤ S512x512.size a) (h : Fin 2) (s : Fin 3) (ch : Fin 2) : Prog (TpuEff nD τ sig (Elt F) Λ₀ .tc) PUnit := do
  let v : Vec F S128x256 .f32 ← Prog.lift (.load outM (Rect.unit (s := S512x512) off S128x256.size inb).toLoadRect (View.loadsAt_vmem h_S128x256))
  let w : Vec F S128x256 .bf16 ← Prog.lift (.load commM (rect8 (row8 s.castSucc ch) h).toLoadRect (View.loadsAt_vmem h_S128x256))
  let _ : Vec F S128x256 .f32 ← Prog.lift (.load outM (Rect.unit (s := S512x512) off S128x256.size inb).toLoadRect (View.loadsAt_vmem h_S128x256))
  Prog.lift (.store outM (Rect.unit (s := S512x512) off S128x256.size inb) (sumV v w) Finset.univ (View.stores_vmem_bits_univ h_S128x256 rfl) (.inl rfl))
  let _ : Vec F S128x256 .bf16 ← Prog.lift (.load sendM (rect8 (row8 s.succ ch) h).toLoadRect (View.loadsAt_vmem h_S128x256))
  Prog.lift (.store sendM (rect8 (row8 s.succ ch) h) (roundV v w) Finset.univ
    (View.stores_vmem h_S128x256 ((Memref.isWhole_whole cc0_scratch1).storeExact_slice rfl _ (packed8 _ h)) (fun _ => rfl)) (.inl rfl))

/-- Add what landed in the fourth exchange, into a block of the last exchange's array. -/
def pLast (off : Fin 2 → Nat) (inb : ∀ a, off a + S128x256.size a ≤ S512x512.size a)
    (hp : (Rect.unit (s := S512x512) off S128x256.size inb).PackedRows (EltTy.packing .bf16)) (h ch : Fin 2) : Prog (TpuEff nD τ sig (Elt F) Λ₀ .tc) PUnit := do
  let v : Vec F S128x256 .f32 ← Prog.lift (.load outM (Rect.unit (s := S512x512) off S128x256.size inb).toLoadRect (View.loadsAt_vmem h_S128x256))
  let w : Vec F S128x256 .bf16 ← Prog.lift (.load commM (rect8 (row8 3 ch) h).toLoadRect (View.loadsAt_vmem h_S128x256))
  let _ : Vec F S128x256 .bf16 ← Prog.lift (.load gathM (Rect.unit (s := S512x512) off S128x256.size inb).toLoadRect (View.loadsAt_vmem h_S128x256))
  Prog.lift (.store gathM (Rect.unit (s := S512x512) off S128x256.size inb) (roundV v w) Finset.univ
    (View.stores_vmem h_S128x256 ((Memref.isWhole_whole cc0_scratch2).storeExact_slice rfl _ hp) (fun _ => rfl)) (.inl rfl))

/-- The whole result from the whole gathered array. -/
def pFin : Prog (TpuEff nD τ sig (Elt F) Λ₀ .tc) PUnit := do
  let g : Vec F S512x512 .bf16 ← Prog.lift (.load gathM (Rect.unit (s := S512x512) ![0, 0] S512x512.size inb_S512x512_S512x512_0_0).toLoadRect (View.loadsAt_vmem h_S512x512))
  let _ : Vec F S512x512 .f32 ← Prog.lift (.load outM (Rect.unit (s := S512x512) ![0, 0] S512x512.size inb_S512x512_S512x512_0_0).toLoadRect (View.loadsAt_vmem h_S512x512))
  Prog.lift (.store outM (Rect.unit (s := S512x512) ![0, 0] S512x512.size inb_S512x512_S512x512_0_0) (finV g) Finset.univ (View.stores_vmem_bits_univ h_S512x512 rfl) (.inl rfl))

/-- One unit on the barrier semaphore of device `n`. -/
def pGreet (n : Dev nD) : Prog (TpuEff nD τ sig (Elt F) Λ₀ .tc) PUnit := semSignalWord n barS 1#32
/-- Wait for the four partners. -/
def pMeet : Prog (TpuEff nD τ sig (Elt F) Λ₀ .tc) PUnit := semWaitWord barS 4#32

/-- The body with the offsets and devices that the program computes. -/
def flat : Prog (TpuEff nD τ sig (Elt F) Λ₀ .tc) PUnit := do
  let d ← Prog.lift .deviceId
  pGreet ⟨k0_dev1 d, k0_dev1_lt d⟩
  pGreet ⟨k0_dev2 d, k0_dev2_lt d⟩
  pGreet ⟨k0_dev3 d, k0_dev3_lt d⟩
  pGreet ⟨k0_dev4 d, k0_dev4_lt d⟩
  pFill (k0_off1 d 2#32 0#32) (k0_off1_inb d 0 0) 0 0
  pMeet
  pPut8 ⟨k0_dev5 d, k0_dev5_lt d⟩ 0 0 0
  pFill (k0_off1 d 4#32 0#32) (k0_off1_inb d 1 0) 1 0
  pPut8 ⟨k0_dev6 d, k0_dev6_lt d⟩ 1 0 0
  pFill (k0_off1 d 2#32 128#32) (k0_off1_inb d 0 1) 0 1
  pPut8 ⟨k0_dev7 d, k0_dev7_lt d⟩ 0 0 1
  pFill (k0_off1 d 4#32 128#32) (k0_off1_inb d 1 1) 1 1
  pPut8 ⟨k0_dev8 d, k0_dev8_lt d⟩ 1 0 1
  pKeep (k0_off2 d 2#32) (k0_off2_inb d 0) (k0_off3 d) (k0_off3_inb d) 0
  pKeep (k0_off2 d 4#32) (k0_off2_inb d 1) (k0_off4 d) (k0_off4_inb d) 1
  pTake8 0 0 0
  pAdd (k0_off5 d 0#32) (k0_off5_inb d 0) 0 0 0
  pPut8 ⟨k0_dev9 d, k0_dev9_lt d⟩ 0 1 0
  pTake8 1 0 0
  pAdd (k0_off6 d 0#32) (k0_off6_inb d 0) 1 0 0
  pPut8 ⟨k0_dev10 d, k0_dev10_lt d⟩ 1 1 0
  pTake8 0 0 1
  pAdd (k0_off5 d 128#32) (k0_off5_inb d 1) 0 0 1
  pPut8 ⟨k0_dev11 d, k0_dev11_lt d⟩ 0 1 1
  pTake8 1 0 1
  pAdd (k0_off6 d 128#32) (k0_off6_inb d 1) 1 0 1
  pPut8 ⟨k0_dev12 d, k0_dev12_lt d⟩ 1 1 1
  pTake8 0 1 0
  pAdd (k0_off5 d 0#32) (k0_off5_inb d 0) 0 1 0
  pPut8 ⟨k0_dev13 d, k0_dev13_lt d⟩ 0 2 0
  pTake8 1 1 0
  pAdd (k0_off6 d 0#32) (k0_off6_inb d 0) 1 1 0
  pPut8 ⟨k0_dev14 d, k0_dev14_lt d⟩ 1 2 0
  pTake8 0 1 1
  pAdd (k0_off5 d 128#32) (k0_off5_inb d 1) 0 1 1
  pPut8 ⟨k0_dev15 d, k0_dev15_lt d⟩ 0 2 1
  pTake8 1 1 1
  pAdd (k0_off6 d 128#32) (k0_off6_inb d 1) 1 1 1
  pPut8 ⟨k0_dev16 d, k0_dev16_lt d⟩ 1 2 1
  pTake8 0 2 0
  pAdd (k0_off5 d 0#32) (k0_off5_inb d 0) 0 2 0
  pPut8 ⟨k0_dev17 d, k0_dev17_lt d⟩ 0 3 0
  pTake8 1 2 0
  pAdd (k0_off6 d 0#32) (k0_off6_inb d 0) 1 2 0
  pPut8 ⟨k0_dev18 d, k0_dev18_lt d⟩ 1 3 0
  pTake8 0 2 1
  pAdd (k0_off5 d 128#32) (k0_off5_inb d 1) 0 2 1
  pPut8 ⟨k0_dev19 d, k0_dev19_lt d⟩ 0 3 1
  pTake8 1 2 1
  pAdd (k0_off6 d 128#32) (k0_off6_inb d 1) 1 2 1
  pPut8 ⟨k0_dev20 d, k0_dev20_lt d⟩ 1 3 1
  pTake8 0 3 0
  pLast (k0_off5 d 0#32) (k0_off5_inb d 0) (k0_off5_packedbf16 d 0) 0 0
  pPut4 ⟨k0_dev21 d, k0_dev21_lt d⟩ (k0_off7 d 0#32) (k0_off7_inb d 0) (k0_off7_wordsbf16 d 0) 0 0
  pTake8 1 3 0
  pLast (k0_off6 d 0#32) (k0_off6_inb d 0) (k0_off6_packedbf16 d 0) 1 0
  pPut4 ⟨k0_dev22 d, k0_dev22_lt d⟩ (k0_off8 d 0#32) (k0_off8_inb d 0) (k0_off8_wordsbf16 d 0) 1 0
  pTake8 0 3 1
  pLast (k0_off5 d 128#32) (k0_off5_inb d 1) (k0_off5_packedbf16 d 1) 0 1
  pPut4 ⟨k0_dev23 d, k0_dev23_lt d⟩ (k0_off7 d 128#32) (k0_off7_inb d 1) (k0_off7_wordsbf16 d 1) 0 1
  pTake8 1 3 1
  pLast (k0_off6 d 128#32) (k0_off6_inb d 1) (k0_off6_packedbf16 d 1) 1 1
  pPut4 ⟨k0_dev24 d, k0_dev24_lt d⟩ (k0_off8 d 128#32) (k0_off8_inb d 1) (k0_off8_wordsbf16 d 1) 1 1
  pTake4 (k0_off7 d 0#32) (k0_off7_inb d 0) (k0_off7_wordsbf16 d 0) 0 0
  pTake4 (k0_off8 d 0#32) (k0_off8_inb d 0) (k0_off8_wordsbf16 d 0) 1 0
  pTake4 (k0_off7 d 128#32) (k0_off7_inb d 1) (k0_off7_wordsbf16 d 1) 0 1
  pTake4 (k0_off8 d 128#32) (k0_off8_inb d 1) (k0_off8_wordsbf16 d 1) 1 1
  pFin
  pBack8 0 0 0
  pBack8 1 0 0
  pBack8 0 0 1
  pBack8 1 0 1
  pBack8 0 1 0
  pBack8 1 1 0
  pBack8 0 1 1
  pBack8 1 1 1
  pBack8 0 2 0
  pBack8 1 2 0
  pBack8 0 2 1
  pBack8 1 2 1
  pBack8 0 3 0
  pBack8 1 3 0
  pBack8 0 3 1
  pBack8 1 3 1
  pBack4 (k0_off7 d 0#32) (k0_off7_inb d 0) (k0_off7_wordsbf16 d 0) 0 0
  pBack4 (k0_off8 d 0#32) (k0_off8_inb d 0) (k0_off8_wordsbf16 d 0) 1 0
  pBack4 (k0_off7 d 128#32) (k0_off7_inb d 1) (k0_off7_wordsbf16 d 1) 0 1
  pBack4 (k0_off8 d 128#32) (k0_off8_inb d 1) (k0_off8_wordsbf16 d 1) 1 1

set_option maxRecDepth 65536 in
set_option maxHeartbeats 4000000 in
/-- The printed body, over the arrays of a device, is that program: by unfolding. -/
theorem body_flat : cc0_body (F := F) aM (Memref.isWhole_whole _) bM (Memref.isWhole_whole _) outM (Memref.isWhole_whole _) commM (Memref.isWhole_whole _) sendM (Memref.isWhole_whole _)
    gathM (Memref.isWhole_whole _) cc0_scratch3 cc0_scratch4 = flat := rfl

/-! ## Closed forms -/

/-- The pieces at device `c`, with closed forms of their offsets. -/
def fillAt (c : Dev nD) (h ch : Fin 2) : Prog (TpuEff nD τ sig (Elt F) Λ₀ .tc) PUnit := pFill ![128 * (away h c ch).val, 0] (inbArow _) h ch
@[inherit_doc fillAt] def keepAt (c : Dev nD) (h : Fin 2) : Prog (TpuEff nD τ sig (Elt F) Λ₀ .tc) PUnit :=
  pKeep ![256 * (bit h c).val, 0] (inbAhalf _) ![256 * (bit h c).val, 256 * h.val] (inbQ _ _) h
@[inherit_doc fillAt] def addAt (c : Dev nD) (h : Fin 2) (s : Fin 3) (ch : Fin 2) : Prog (TpuEff nD τ sig (Elt F) Λ₀ .tc) PUnit :=
  pAdd ![128 * (kept h c ch).val, 256 * h.val] (inb4 _ _) h s ch
@[inherit_doc fillAt] def lastAt (c : Dev nD) (h ch : Fin 2) : Prog (TpuEff nD τ sig (Elt F) Λ₀ .tc) PUnit :=
  pLast ![128 * (kept h c ch).val, 256 * h.val] (inb4 _ _) (packed4 _ _) h ch
@[inherit_doc fillAt] def putAt (c : Dev nD) (h ch : Fin 2) : Prog (TpuEff nD τ sig (Elt F) Λ₀ .tc) PUnit :=
  pPut4 (peer c (h, 4, ch)) ![128 * (kept h c ch).val, 256 * h.val] (inb4 _ _) (words4 _ _) h ch
@[inherit_doc fillAt] def takeAt (c : Dev nD) (h ch : Fin 2) : Prog (TpuEff nD τ sig (Elt F) Λ₀ .tc) PUnit :=
  pTake4 ![128 * (kept h c ch).val, 256 * h.val] (inb4 _ _) (words4 _ _) h ch
@[inherit_doc fillAt] def backAt (c : Dev nD) (h ch : Fin 2) : Prog (TpuEff nD τ sig (Elt F) Λ₀ .tc) PUnit :=
  pBack4 ![128 * (kept h c ch).val, 256 * h.val] (inb4 _ _) (words4 _ _) h ch

section
variable {h ch : Fin 2} {s : Fin 3} {n n' : Dev nD} {o o' : Fin 2 → Nat} {p p' : Fin 2 → Nat}
theorem pFill_congr {i i'} (e : o = o') : pFill (F := F) o i h ch = pFill o' i' h ch := by subst e; rfl
theorem pKeep_congr {i i' k k'} (e : o = o') (e' : p = p') : pKeep (F := F) o i p k h = pKeep o' i' p' k' h := by subst e; subst e'; rfl
theorem pAdd_congr {i i'} (e : o = o') : pAdd (F := F) o i h s ch = pAdd o' i' h s ch := by subst e; rfl
theorem pLast_congr {i i' k k'} (e : o = o') : pLast (F := F) o i k h ch = pLast o' i' k' h ch := by subst e; rfl
theorem pPut4_congr {i i' k k'} (f : n = n') (e : o = o') : pPut4 (F := F) n o i k h ch = pPut4 n' o' i' k' h ch := by subst f; subst e; rfl
theorem pTake4_congr {i i' k k'} (e : o = o') : pTake4 (F := F) o i k h ch = pTake4 o' i' k' h ch := by subst e; rfl
theorem pBack4_congr {i i' k k'} (e : o = o') : pBack4 (F := F) o i k h ch = pBack4 o' i' k' h ch := by subst e; rfl
theorem pPut8_congr {t : Fin 4} (f : n = n') : pPut8 (F := F) n h t ch = pPut8 n' h t ch := by subst f; rfl
theorem pGreet_congr (f : n = n') : pGreet (F := F) n = pGreet n' := by subst f; rfl
/-- Two pieces one after the other, each replaced by its equal. -/
theorem seq_congr {a a' b b' : Prog (TpuEff nD τ sig (Elt F) Λ₀ .tc) PUnit} (e : a = a') (e' : b = b') :
    (a >>= fun _ => b) = (a' >>= fun _ => b') := by subst e; subst e'; rfl
/-- What follows a piece, replaced by its equal at every value. -/
theorem bind_right {α : Type} {p : Prog (TpuEff nD τ sig (Elt F) Λ₀ .tc) α} {k k' : α → Prog (TpuEff nD τ sig (Elt F) Λ₀ .tc) PUnit} (e : ∀ d, k d = k' d) :
    (p >>= k) = (p >>= k') := by rw [funext e]
end

/-- The body of device `c`, with closed forms. -/
def closed (c : Dev nD) : Prog (TpuEff nD τ sig (Elt F) Λ₀ .tc) PUnit := do
  pGreet (part 0 c)
  pGreet (part 1 c)
  pGreet (part 2 c)
  pGreet (part 3 c)
  fillAt c 0 0
  pMeet
  pPut8 (peer c (0, 0, 0)) 0 0 0
  fillAt c 1 0
  pPut8 (peer c (1, 0, 0)) 1 0 0
  fillAt c 0 1
  pPut8 (peer c (0, 0, 1)) 0 0 1
  fillAt c 1 1
  pPut8 (peer c (1, 0, 1)) 1 0 1
  keepAt c 0
  keepAt c 1
  pTake8 0 0 0
  addAt c 0 0 0
  pPut8 (peer c (0, 1, 0)) 0 1 0
  pTake8 1 0 0
  addAt c 1 0 0
  pPut8 (peer c (1, 1, 0)) 1 1 0
  pTake8 0 0 1
  addAt c 0 0 1
  pPut8 (peer c (0, 1, 1)) 0 1 1
  pTake8 1 0 1
  addAt c 1 0 1
  pPut8 (peer c (1, 1, 1)) 1 1 1
  pTake8 0 1 0
  addAt c 0 1 0
  pPut8 (peer c (0, 2, 0)) 0 2 0
  pTake8 1 1 0
  addAt c 1 1 0
  pPut8 (peer c (1, 2, 0)) 1 2 0
  pTake8 0 1 1
  addAt c 0 1 1
  pPut8 (peer c (0, 2, 1)) 0 2 1
  pTake8 1 1 1
  addAt c 1 1 1
  pPut8 (peer c (1, 2, 1)) 1 2 1
  pTake8 0 2 0
  addAt c 0 2 0
  pPut8 (peer c (0, 3, 0)) 0 3 0
  pTake8 1 2 0
  addAt c 1 2 0
  pPut8 (peer c (1, 3, 0)) 1 3 0
  pTake8 0 2 1
  addAt c 0 2 1
  pPut8 (peer c (0, 3, 1)) 0 3 1
  pTake8 1 2 1
  addAt c 1 2 1
  pPut8 (peer c (1, 3, 1)) 1 3 1
  pTake8 0 3 0
  lastAt c 0 0
  putAt c 0 0
  pTake8 1 3 0
  lastAt c 1 0
  putAt c 1 0
  pTake8 0 3 1
  lastAt c 0 1
  putAt c 0 1
  pTake8 1 3 1
  lastAt c 1 1
  putAt c 1 1
  takeAt c 0 0
  takeAt c 1 0
  takeAt c 0 1
  takeAt c 1 1
  pFin
  pBack8 0 0 0
  pBack8 1 0 0
  pBack8 0 0 1
  pBack8 1 0 1
  pBack8 0 1 0
  pBack8 1 1 0
  pBack8 0 1 1
  pBack8 1 1 1
  pBack8 0 2 0
  pBack8 1 2 0
  pBack8 0 2 1
  pBack8 1 2 1
  pBack8 0 3 0
  pBack8 1 3 0
  pBack8 0 3 1
  pBack8 1 3 1
  backAt c 0 0
  backAt c 1 0
  backAt c 0 1
  backAt c 1 1

set_option maxRecDepth 65536 in
/-- The program with computed offsets is the closed one at the device's own number. -/
theorem flat_closed : flat (F := F) = Prog.lift .deviceId >>= closed := by
  refine bind_right (p := Prog.lift TpuEff.deviceId) fun d => ?_
  exact seq_congr (pGreet_congr (dev1 d)) <|
    seq_congr (pGreet_congr (dev2 d)) <|
    seq_congr (pGreet_congr (dev3 d)) <|
    seq_congr (pGreet_congr (dev4 d)) <|
    seq_congr (pFill_congr (off1 d 0 0)) <|
    seq_congr rfl <|
    seq_congr (pPut8_congr (dev5 d)) <|
    seq_congr (pFill_congr (off1 d 1 0)) <|
    seq_congr (pPut8_congr (dev6 d)) <|
    seq_congr (pFill_congr (off1 d 0 1)) <|
    seq_congr (pPut8_congr (dev7 d)) <|
    seq_congr (pFill_congr (off1 d 1 1)) <|
    seq_congr (pPut8_congr (dev8 d)) <|
    seq_congr (pKeep_congr (off2 d 0) (off3 d)) <|
    seq_congr (pKeep_congr (off2 d 1) (off4 d)) <|
    seq_congr rfl <|
    seq_congr (pAdd_congr (off5 d 0)) <|
    seq_congr (pPut8_congr (dev9 d)) <|
    seq_congr rfl <|
    seq_congr (pAdd_congr (off6 d 0)) <|
    seq_congr (pPut8_congr (dev10 d)) <|
    seq_congr rfl <|
    seq_congr (pAdd_congr (off5 d 1)) <|
    seq_congr (pPut8_congr (dev11 d)) <|
    seq_congr rfl <|
    seq_congr (pAdd_congr (off6 d 1)) <|
    seq_congr (pPut8_congr (dev12 d)) <|
    seq_congr rfl <|
    seq_congr (pAdd_congr (off5 d 0)) <|
    seq_congr (pPut8_congr (dev13 d)) <|
    seq_congr rfl <|
    seq_congr (pAdd_congr (off6 d 0)) <|
    seq_congr (pPut8_congr (dev14 d)) <|
    seq_congr rfl <|
    seq_congr (pAdd_congr (off5 d 1)) <|
    seq_congr (pPut8_congr (dev15 d)) <|
    seq_congr rfl <|
    seq_congr (pAdd_congr (off6 d 1)) <|
    seq_congr (pPut8_congr (dev16 d)) <|
    seq_congr rfl <|
    seq_congr (pAdd_congr (off5 d 0)) <|
    seq_congr (pPut8_congr (dev17 d)) <|
    seq_congr rfl <|
    seq_congr (pAdd_congr (off6 d 0)) <|
    seq_congr (pPut8_congr (dev18 d)) <|
    seq_congr rfl <|
    seq_congr (pAdd_congr (off5 d 1)) <|
    seq_congr (pPut8_congr (dev19 d)) <|
    seq_congr rfl <|
    seq_congr (pAdd_congr (off6 d 1)) <|
    seq_congr (pPut8_congr (dev20 d)) <|
    seq_congr rfl <|
    seq_congr (pLast_congr (off5 d 0)) <|
    seq_congr (pPut4_congr (dev21 d) (off7 d 0)) <|
    seq_congr rfl <|
    seq_congr (pLast_congr (off6 d 0)) <|
    seq_congr (pPut4_congr (dev22 d) (off8 d 0)) <|
    seq_congr rfl <|
    seq_congr (pLast_congr (off5 d 1)) <|
    seq_congr (pPut4_congr (dev23 d) (off7 d 1)) <|
    seq_congr rfl <|
    seq_congr (pLast_congr (off6 d 1)) <|
    seq_congr (pPut4_congr (dev24 d) (off8 d 1)) <|
    seq_congr (pTake4_congr (off7 d 0)) <|
    seq_congr (pTake4_congr (off8 d 0)) <|
    seq_congr (pTake4_congr (off7 d 1)) <|
    seq_congr (pTake4_congr (off8 d 1)) <|
    seq_congr rfl <|
    seq_congr rfl <|
    seq_congr rfl <|
    seq_congr rfl <|
    seq_congr rfl <|
    seq_congr rfl <|
    seq_congr rfl <|
    seq_congr rfl <|
    seq_congr rfl <|
    seq_congr rfl <|
    seq_congr rfl <|
    seq_congr rfl <|
    seq_congr rfl <|
    seq_congr rfl <|
    seq_congr rfl <|
    seq_congr rfl <|
    seq_congr rfl <|
    seq_congr (pBack4_congr (off7 d 0)) <|
    seq_congr (pBack4_congr (off8 d 0)) <|
    seq_congr (pBack4_congr (off7 d 1)) <|
    pBack4_congr (off8 d 1)

end Cert.HyperSum

end
-- ==== Proof.Contents.lean ====
/-
# What the blocks hold

From the devices' parts `A` (512 x 256) and `B` (256 x 512) of the two factors: what every transfer carries, what every
block of the result holds after each exchange, and what the gathered array and the result hold in the end.
-/
module

public import proofs.«01_k».proof.Proof.Flat

@[expose] public section

noncomputable section

namespace Cert.HyperSum

open Cert.KernelIdeal Cert.KernelIdeal.Gen
open Idealize.ShloMosaic Idealize.ShloMosaic.TcCoe
open Idealize.SL Idealize.SL.Sem

variable {F : FTy → Type} [FloatOps F]
variable (A : Dev nD → Vec F S512x256 .f32) (B : Dev nD → Vec F S256x512 .f32)

/-! ## The blocks of an array, as families that cover it -/

/-- The blocks of a 1024 x 512 array, by block row and column half; of a 512 x 512 array. -/
abbrev fam8 (t : Fin 8 × Fin 2) : Rect S1024x512 := rect8 t.1 t.2
abbrev fam4 (t : Fin 4 × Fin 2) : Rect S512x512 := rect4 t.1 t.2

theorem fam8_disj (t t' : Fin 8 × Fin 2) (h : t ≠ t') : Disjoint (fam8 t).set (fam8 t').set := by
  obtain ⟨i, a⟩ := t; obtain ⟨i', a'⟩ := t'
  by_cases e : i = i'
  · subst e
    have ha : a ≠ a' := fun e => h (by rw [e])
    have hv : a.val ≠ a'.val := fun e => ha (Fin.ext e)
    exact Rect.unit_disjoint 1 (by
      show 256 * a.val + 256 ≤ 256 * a'.val ∨ 256 * a'.val + 256 ≤ 256 * a.val
      omega)
  · have hv : i.val ≠ i'.val := fun e' => e (Fin.ext e')
    exact Rect.unit_disjoint 0 (by
      show 128 * i.val + 128 ≤ 128 * i'.val ∨ 128 * i'.val + 128 ≤ 128 * i.val
      omega)

theorem fam4_disj (t t' : Fin 4 × Fin 2) (h : t ≠ t') : Disjoint (fam4 t).set (fam4 t').set := by
  obtain ⟨i, a⟩ := t; obtain ⟨i', a'⟩ := t'
  by_cases e : i = i'
  · subst e
    have ha : a ≠ a' := fun e => h (by rw [e])
    have hv : a.val ≠ a'.val := fun e => ha (Fin.ext e)
    exact Rect.unit_disjoint 1 (by
      show 256 * a.val + 256 ≤ 256 * a'.val ∨ 256 * a'.val + 256 ≤ 256 * a.val
      omega)
  · have hv : i.val ≠ i'.val := fun e' => e (Fin.ext e')
    exact Rect.unit_disjoint 0 (by
      show 128 * i.val + 128 ≤ 128 * i'.val ∨ 128 * i'.val + 128 ≤ 128 * i.val
      omega)

theorem fam8_cover : (Finset.univ : Finset (Fin 8 × Fin 2)).biUnion (fun t => (fam8 t).set) = Finset.univ := by
  refine Finset.eq_univ_iff_forall.mpr fun x => Finset.mem_biUnion.mpr ?_
  have h0 : (x 0).val < 1024 := (x 0).isLt
  have h1 : (x 1).val < 512 := (x 1).isLt
  refine ⟨(⟨(x 0).val / 128, by omega⟩, ⟨(x 1).val / 256, by omega⟩), Finset.mem_univ _, Rect.mem_set_unit.mpr ?_⟩
  refine Fin.forall_fin_two.mpr ⟨?_, ?_⟩
  · show 128 * ((x 0).val / 128) ≤ (x 0).val ∧ (x 0).val < 128 * ((x 0).val / 128) + 128
    omega
  · show 256 * ((x 1).val / 256) ≤ (x 1).val ∧ (x 1).val < 256 * ((x 1).val / 256) + 256
    omega

theorem fam4_cover : (Finset.univ : Finset (Fin 4 × Fin 2)).biUnion (fun t => (fam4 t).set) = Finset.univ := by
  refine Finset.eq_univ_iff_forall.mpr fun x => Finset.mem_biUnion.mpr ?_
  have h0 : (x 0).val < 512 := (x 0).isLt
  have h1 : (x 1).val < 512 := (x 1).isLt
  refine ⟨(⟨(x 0).val / 128, by omega⟩, ⟨(x 1).val / 256, by omega⟩), Finset.mem_univ _, Rect.mem_set_unit.mpr ?_⟩
  refine Fin.forall_fin_two.mpr ⟨?_, ?_⟩
  · show 128 * ((x 0).val / 128) ≤ (x 0).val ∧ (x 0).val < 128 * ((x 0).val / 128) + 128
    omega
  · show 256 * ((x 1).val / 256) ≤ (x 1).val ∧ (x 1).val < 256 * ((x 1).val / 256) + 256
    omega

/-! ## Contents -/

/-- The rows of a device's left part that it multiplies for its partner; the rows that it keeps; a half of the columns of
    its right part. -/
def aAway (c : Dev nD) (h ch : Fin 2) : Vec F S128x256 .f32 := fun y => A c ((rectArow (away h c ch)).emb y)
def aKeep (c : Dev nD) (h : Fin 2) : Vec F S256x256 .f32 := fun y => A c ((rectAhalf (bit h c)).emb y)
def bHalf (c : Dev nD) (h : Fin 2) : Vec F S256x256 .f32 := fun y => B c ((rectBhalf h).emb y)

theorem inbSub (ch : Fin 2) : ∀ a, (![128 * ch.val, 0] : Fin 2 → Nat) a + S128x256.size a ≤ S256x256.size a := by revert ch; decide
/-- A chunk of 128 rows of a quadrant. -/
abbrev rectSub (ch : Fin 2) : Rect S256x256 := Rect.unit (s := S256x256) ![128 * ch.val, 0] S128x256.size (inbSub ch)

/-- For a column half and a chunk: every device's partial sum, and what every device sends, before the exchange numbered `s`. -/
def state (h ch : Fin 2) : Nat → (Dev nD → Vec F S128x256 .f32) × (Dev nD → Vec F S128x256 .bf16)
  | 0 => (fun c y => keepV (aKeep A c h) (bHalf B c h) ((rectSub ch).emb y), fun c => fillV (aAway A c h ch) (bHalf B c h))
  | s + 1 => (fun c => sumV ((state h ch s).1 c) ((state h ch s).2 (part (cls h (Fin.ofNat 5 s)) c)),
      fun c => roundV ((state h ch s).1 c) ((state h ch s).2 (part (cls h (Fin.ofNat 5 s)) c)))

/-- A device's partial sum of its kept block before exchange `s`, and what it sends in a transfer. -/
def acc (c : Dev nD) (h : Fin 2) (s : Fin 5) (ch : Fin 2) : Vec F S128x256 .f32 := (state A B h ch s.val).1 c
def msg (c : Dev nD) (j : Msg) : Vec F S128x256 .bf16 := (state A B j.1 j.2.2 j.2.1.val).2 c

theorem acc_succ (c : Dev nD) (h : Fin 2) (s : Fin 4) (ch : Fin 2) :
    acc A B c h s.succ ch = sumV (acc A B c h s.castSucc ch) (msg A B (peer c (h, s.castSucc, ch)) (h, s.castSucc, ch)) := by
  fin_cases s <;> rfl
theorem msg_succ (c : Dev nD) (h : Fin 2) (s : Fin 4) (ch : Fin 2) :
    msg A B c (h, s.succ, ch) = roundV (acc A B c h s.castSucc ch) (msg A B (peer c (h, s.castSucc, ch)) (h, s.castSucc, ch)) := by
  fin_cases s <;> rfl

/-- The chunk of a block row. -/
def chunk (i : Fin 4) : Fin 2 := ⟨i.val % 2, Nat.mod_lt _ (by decide)⟩

/-- A block of the gathered array: the device's own total where it keeps the row, its last partner's elsewhere. -/
def gBlock (c : Dev nD) (t : Fin 4 × Fin 2) : Vec F S128x256 .bf16 :=
  if t.1 = kept t.2 c (chunk t.1) then msg A B c (t.2, 4, chunk t.1) else msg A B (peer c (t.2, 4, chunk t.1)) (t.2, 4, chunk t.1)

theorem gBlock_kept (c : Dev nD) (h ch : Fin 2) : gBlock A B c (kept h c ch, h) = msg A B c (h, 4, ch) := by
  have e : chunk (kept h c ch) = ch := by revert c h ch; decide
  unfold gBlock; dsimp only; rw [e, if_pos rfl]
theorem gBlock_away (c : Dev nD) (h ch : Fin 2) : gBlock A B c (away h c ch, h) = msg A B (peer c (h, 4, ch)) (h, 4, ch) := by
  have e : chunk (away h c ch) = ch := by revert c h ch; decide
  have n : away h c ch ≠ kept h c ch := by revert c h ch; decide
  unfold gBlock; dsimp only; rw [e, if_neg n]

/-- The gathered array and the result. -/
def gAll (c : Dev nD) : Vec F S512x512 .bf16 := Rect.glue fam4 fam4_cover (gBlock A B c)
def outAt (c : Dev nD) : Vec F S512x512 .f32 := finV (gAll A B c)

theorem gAll_block (c : Dev nD) (t : Fin 4 × Fin 2) (y : S128x256.Idx) : gAll A B c ((fam4 t).emb y) = gBlock A B c t y :=
  Rect.glue_emb fam4 fam4_cover fam4_disj (gBlock A B c) t y

end Cert.HyperSum

end
-- ==== Proof.Proto.lean ====
/-
# The protocol

Every device has one barrier semaphore and, for each of its twenty transfers, a sending and a landing semaphore.

* Barrier. At the start a device raises the barrier semaphores of its four partners by one unit each, and it waits for
  four units on its own before its first transfer. With its unit a partner hands over the blocks of its own arrays in
  which this device's transfers will land.
* Landing semaphore of transfer `j` on device `p`: raised once, by the transfer that `peer p j` starts, by the credit of
  one block; `p` waits for it once. It hands `p` the block, holding `msg (peer p j) j`.
* Sending semaphore of transfer `j` on device `c`: raised once, by the same transfer as it has read its source, by the
  same credit; `c` waits for it once, at the end of its program. It hands the source block back. In the last exchange
  only half a share of the source is lent, since the device still reads the block.

A device starts its transfers exchange by exchange, and starts one of exchange `s + 1` after it has waited for the same
one of exchange `s`. So barrier waits are below all landings and landings of exchange `s` below those of exchange `s + 1`;
a wait is always for something below everything that the waiting device has still to raise.
-/
module

public import proofs.«01_k».proof.Proof.Contents
public import Mathlib.Data.Fintype.Option

@[expose] public section

noncomputable section

namespace Cert.HyperSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (A : Dev nD → Vec F S512x256 .f32) (B : Dev nD → Vec F S256x512 .f32)

/-! ## Cells -/

/-- A device's semaphores: the barrier's, and the sending (`false`) and landing (`true`) one of each transfer. -/
abbrev Cell : Type := Option (Bool × Msg)

def csem : Cell → SemLoc sig
  | none => .reg barS
  | some (false, j) => .dma (sendS j).sem
  | some (true, j) => .dma (recvS j).sem

abbrev osem (k : Bool × Msg) : SemLoc sig := csem (some k)

abbrev barCell (c : Dev nD) : GSem nD τ sig := ((c : Thread nD τ), .reg barS)
abbrev sendCell (c : Dev nD) (j : Msg) : GSem nD τ sig := ((c : Thread nD τ), .dma (sendS j).sem)
abbrev recvCell (c : Dev nD) (j : Msg) : GSem nD τ sig := ((c : Thread nD τ), .dma (recvS j).sem)
abbrev kcell (ck : Dev nD × Cell) : GSem nD τ sig := ((ck.1 : Thread nD τ), csem ck.2)

theorem csem_injective : Function.Injective csem := by decide +kernel

open Classical in
/-- Which of a device's semaphores a semaphore is. -/
def which (sm : SemLoc sig) : Option Cell := if h : ∃ k, csem k = sm then some h.choose else none

theorem which_csem (k : Cell) : which (csem k) = some k := by
  have h : ∃ k', csem k' = csem k := ⟨k, rfl⟩
  unfold which; rw [dif_pos h, csem_injective h.choose_spec]

theorem which_bar : which (.reg barS) = some none := which_csem none
theorem which_send (j : Msg) : which (.dma (sendS j).sem) = some (some (false, j)) := which_csem (some (false, j))
theorem which_recv (j : Msg) : which (.dma (recvS j).sem) = some (some (true, j)) := which_csem (some (true, j))

/-- The credit of one block. -/
abbrev N : ℕ := (commB 0 0).view.dmaCredit
theorem N_pos : 0 < N := View.dmaCredit_pos _ (by decide)
theorem credit_comm (i : Fin 8) (h : Fin 2) : (commB i h).view.dmaCredit = N := rfl
theorem credit_send (i : Fin 8) (h : Fin 2) : (sendB i h).view.dmaCredit = N := rfl
theorem credit_gath (i : Fin 4) (h : Fin 2) : (gathB i h).view.dmaCredit = N := rfl

/-! ## The schedule -/

/-- The share of a transfer's source that is lent to it. -/
def lent (j : Msg) : PosShare TreeShare := if j.2.1.val < 4 then fullShare else fullShare.left

/-- What the partner in direction `k` hands `c` with its barrier unit: its blocks in which `c`'s transfers in that
    direction land. -/
def barPay (c : Dev nD) (k : Fin 4) : sProp 𝕄 :=
  bigSep (Finset.univ.filter fun j : Msg => cls j.1 j.2.1 = k) fun j => iprop(∃ Y, ownsTc (part k c) (dstM c j) fullShare Y)
/-- What a landing hands its receiver, and what the source's release hands the sender. -/
def recvPay (p : Dev nD) (j : Msg) : sProp 𝕄 := ownsTc p (dstM (peer p j) j) fullShare (msg A B (peer p j) j)
def sendPay (c : Dev nD) (j : Msg) : sProp 𝕄 := ownsTc c (srcM c j) (lent j) (msg A B c j)

def payOf (c : Dev nD) (k : Option Cell) (d : Fin 4) : sProp 𝕄 :=
  match k with
  | some none => barPay c d
  | some (some (false, j)) => sendPay A B c j
  | some (some (true, j)) => recvPay A B c j
  | none => iprop(emp)

def dutiesOf (k : Option Cell) : Finset (Fin 4) :=
  match k with
  | some none => Finset.univ
  | some (some _) => {0}
  | none => ∅

def amountFor (k : Option Cell) : ℕ :=
  match k with
  | some none => 1
  | _ => N

theorem amountFor_pos (k : Option Cell) : 0 < amountFor k := by
  rcases k with _ | _ | _ <;> first | exact Nat.one_pos | exact N_pos

/-- One round: the barrier's four units, and one block's credit on each other semaphore. -/
def Rd : Rounds.Schedule (GSem nD τ sig) (Fin 4) 𝕄 where
  duties g r := if r = 0 ∧ g.1.2 = .tc then dutiesOf (which g.2) else ∅
  unitless _ := False
  amount g _ _ := amountFor (which g.2)
  payload g _ d := payOf A B g.1.1 (which g.2) d
  amount_pos g _ _ _ := amountFor_pos _

instance Rd_payload_storable (g : GSem nD τ sig) (r : ℕ) (d : Fin 4) :
    BI.Storable (upEmb : UEmb _ 𝕄) ((Rd (F := F) A B).payload g r d) := by
  show BI.Storable upEmb (payOf A B g.1.1 (which g.2) d)
  rcases which g.2 with _ | _ | ⟨_ | _, j⟩ <;> unfold payOf <;> dsimp only
  · infer_instance
  · unfold barPay; infer_instance
  · unfold sendPay ownsTc; infer_instance
  · unfold recvPay ownsTc; infer_instance

section Sched
variable (c : Dev nD) (j : Msg)

theorem duties_bar : (Rd (F := F) A B).duties (barCell c) 0 = Finset.univ := by
  dsimp only [Rd]; rw [if_pos ⟨rfl, rfl⟩, which_bar]; rfl
theorem duties_send : (Rd (F := F) A B).duties (sendCell c j) 0 = {0} := by
  dsimp only [Rd]; rw [if_pos ⟨rfl, rfl⟩, which_send]; rfl
theorem duties_recv : (Rd (F := F) A B).duties (recvCell c j) 0 = {0} := by
  dsimp only [Rd]; rw [if_pos ⟨rfl, rfl⟩, which_recv]; rfl
theorem duties_later (g : GSem nD τ sig) : ∀ r, 1 ≤ r → (Rd (F := F) A B).duties g r = ∅ :=
  fun r hr => by dsimp only [Rd]; rw [if_neg fun h => by omega]

theorem amount_bar (d : Fin 4) : (Rd (F := F) A B).amount (barCell c) 0 d = 1 := by dsimp only [Rd]; rw [which_bar]; rfl
theorem amount_send (d : Fin 4) : (Rd (F := F) A B).amount (sendCell c j) 0 d = N := by dsimp only [Rd]; rw [which_send]; rfl
theorem amount_recv (d : Fin 4) : (Rd (F := F) A B).amount (recvCell c j) 0 d = N := by dsimp only [Rd]; rw [which_recv]; rfl

theorem expect_bar : (Rd (F := F) A B).expect (barCell c) 0 = 4 := by
  unfold Schedule.expect Schedule.amountOf
  rw [duties_bar, Finset.sum_congr rfl fun d _ => amount_bar A B c d, Finset.sum_const, Finset.card_univ, Fintype.card_fin, smul_eq_mul]
theorem expect_send : (Rd (F := F) A B).expect (sendCell c j) 0 = N := by
  unfold Schedule.expect Schedule.amountOf; rw [duties_send, Finset.sum_singleton, amount_send]
theorem expect_recv : (Rd (F := F) A B).expect (recvCell c j) 0 = N := by
  unfold Schedule.expect Schedule.amountOf; rw [duties_recv, Finset.sum_singleton, amount_recv]

theorem payload_bar (d : Fin 4) : (Rd (F := F) A B).payload (barCell c) 0 d = barPay c d := by dsimp only [Rd]; rw [which_bar]; rfl
theorem payload_send (d : Fin 4) : (Rd (F := F) A B).payload (sendCell c j) 0 d = sendPay A B c j := by dsimp only [Rd]; rw [which_send]; rfl
theorem payload_recv (d : Fin 4) : (Rd (F := F) A B).payload (recvCell c j) 0 d = recvPay A B c j := by dsimp only [Rd]; rw [which_recv]; rfl

theorem rest_bar : bigSep ((Rd (F := F) A B).duties (barCell c) 0 \ ∅) (fun d => (Rd (F := F) A B).payload (barCell c) 0 d)
    = bigSep Finset.univ fun k => barPay c k := by
  rw [Finset.sdiff_empty, duties_bar]; exact bigSep_congr fun k _ => payload_bar A B c k
theorem rest_send : bigSep ((Rd (F := F) A B).duties (sendCell c j) 0 \ ∅) (fun d => (Rd (F := F) A B).payload (sendCell c j) 0 d) = sendPay A B c j := by
  rw [Finset.sdiff_empty, duties_send, bigSep_singleton, payload_send]
theorem rest_recv : bigSep ((Rd (F := F) A B).duties (recvCell c j) 0 \ ∅) (fun d => (Rd (F := F) A B).payload (recvCell c j) 0 d) = recvPay A B c j := by
  rw [Finset.sdiff_empty, duties_recv, bigSep_singleton, payload_recv]

end Sched

/-- All that the four barrier units hand over: a landing block for each transfer. -/
theorem barPay_all (c : Dev nD) :
    (bigSep Finset.univ fun k => barPay (F := F) c k) = bigSep Finset.univ fun j : Msg => iprop(∃ Y, ownsTc (peer c j) (dstM c j) fullShare Y) := by
  have hu : (Finset.univ : Finset Msg) = Finset.univ.biUnion fun k : Fin 4 => Finset.univ.filter fun j : Msg => cls j.1 j.2.1 = k := by decide
  rw [hu, bigSep_biUnion_eq _ _ _ (fun k _ k' _ hk => Finset.disjoint_filter.mpr fun j _ e e' => hk (e.symm.trans e'))]
  refine bigSep_congr fun k _ => ?_
  unfold barPay
  refine bigSep_congr fun j hj => ?_
  have e := (Finset.mem_filter.mp hj).2
  subst e; rfl

/-! ## What a device has still to raise; the levels -/

/-- The landings that the transfers of a list will raise. -/
def owedL (c : Dev nD) : List Msg → CellTallies nD τ sig Unit
  | [] => 0
  | j :: l => owedL c l + tallyAt (recvCell (peer c j) j) () N

/-- The transfers in the order in which a device starts them. -/
def order : List Msg :=
  [(0, 0, 0), (1, 0, 0), (0, 0, 1), (1, 0, 1), (0, 1, 0), (1, 1, 0), (0, 1, 1), (1, 1, 1), (0, 2, 0), (1, 2, 0), (0, 2, 1), (1, 2, 1),
    (0, 3, 0), (1, 3, 0), (0, 3, 1), (1, 3, 1), (0, 4, 0), (1, 4, 0), (0, 4, 1), (1, 4, 1)]

def O₀ (c : Dev nD) : CellTallies nD τ sig Unit :=
  owedL c order + tallyAt (barCell (part 3 c)) () 1 + tallyAt (barCell (part 2 c)) () 1 + tallyAt (barCell (part 1 c)) () 1 + tallyAt (barCell (part 0 c)) () 1

def L (g : GSem nD τ sig) : Finset Unit := if g.1.2 = .tc then {()} else ∅
/-- Staging and sending semaphores at 0, barriers at 1, landings of exchange `s` at `s + 2`. -/
def lv (g : GSem nD τ sig) (_ : Unit) : ℕ :=
  match which g.2 with
  | some none => 1
  | some (some (true, j)) => j.2.1.val + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [which_bar]
theorem lv_send (c : Dev nD) (j : Msg) : lv (sendCell c j) () = 0 := by unfold lv; rw [which_send]
theorem lv_recv (c : Dev nD) (j : Msg) : lv (recvCell c j) () = j.2.1.val + 2 := by unfold lv; rw [which_recv]

theorem owedL_pos {c : Dev nD} {l : List Msg} {g : GSem nD τ sig} {u : Unit} (h : 0 < owedL c l g u) :
    ∃ j ∈ l, g = recvCell (peer c j) j := by
  induction l with
  | nil => exact absurd h (Nat.lt_irrefl 0)
  | cons j l ih =>
    unfold owedL at h
    rw [Pi.add_apply, Finsupp.add_apply, tallyAt_apply] at h
    by_cases e : g = recvCell (peer c j) j ∧ u = ()
    · exact ⟨j, List.mem_cons_self, e.1⟩
    · rw [if_neg e, Nat.add_zero] at h
      obtain ⟨i, hi, e⟩ := ih h
      exact ⟨i, List.mem_cons_of_mem _ hi, e⟩

theorem O₀_pos {c : Dev nD} {g : GSem nD τ sig} {u : Unit} (h : 0 < O₀ c g u) :
    (∃ j ∈ order, g = recvCell (peer c j) j) ∨ ∃ k, g = barCell (part k c) := by
  by_contra hn
  rw [not_or] at hn
  have hk (k : Fin 4) : ¬ (g = barCell (part k c) ∧ u = ()) := fun e => hn.2 ⟨k, e.1⟩
  have h0 : ¬ 0 < owedL c order g u := fun e => hn.1 (owedL_pos e)
  unfold O₀ at h
  rw [Pi.add_apply, Finsupp.add_apply, Pi.add_apply, Finsupp.add_apply, Pi.add_apply, Finsupp.add_apply, Pi.add_apply, Finsupp.add_apply,
    tallyAt_apply, tallyAt_apply, tallyAt_apply, tallyAt_apply, if_neg (hk 0), if_neg (hk 1), if_neg (hk 2), if_neg (hk 3)] at h
  exact h0 h

/-- A device may wait for something of level `n` while it owes only landings of exchanges from `n - 1` on. -/
theorem mayWait_of (c : Dev nD) (sm : SemLoc sig) (n : ℕ) (l : List Msg) (hs : lv ((c : Thread nD τ), sm) () = n) (hl : ∀ i ∈ l, n < i.2.1.val + 2) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨j, -, rfl⟩ := owedL_pos hg; exact Finset.mem_singleton_self _)
    (fun p hp => by rw [Finset.mem_singleton.mp hp]; exact hs.le)
    (fun g u hg => by obtain ⟨j, hj, rfl⟩ := owedL_pos hg; rw [lv_recv]; exact hl j hj)

/-- A staging semaphore, at launch and at the end. -/
theorem mayWait_stage (c : Dev nD) (q : DmaSem sig) (hq : which (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, -, rfl⟩ | ⟨k, rfl⟩ <;> exact Finset.mem_singleton_self _)
      (fun p hp => by rw [Finset.mem_singleton.mp hp]; unfold lv; rw [hq])
      (fun g u hg => by
        rcases O₀_pos hg with ⟨j, -, rfl⟩ | ⟨k, rfl⟩
        · rw [lv_recv]; omega
        · rw [lv_bar]; omega)
  · rw [MayWait_zero]; iintro -; iempintro

end Cert.HyperSum

end
-- ==== Proof.Rules.lean ====
/-
# One rule for each kind of operation

Rules for the operations of the program on the blocks: a load or a store of a block, a barrier unit and the wait for
four of them, the start of a transfer, the wait for a landing, and the wait for a source.
-/
module

public import proofs.«01_k».proof.Proof.Proto

@[expose] public section

noncomputable section

namespace Cert.HyperSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c` runs to the postcondition. -/
abbrev run (c : Dev nD) (p : Prog (TpuEff nD τ sig (Elt F) Λ₀ .tc) PUnit) (Q : PUnit.{1} → sProp 𝕄) : sProp 𝕄 :=
  wp frame (wpE (defs₀ (F := F)) 𝒱₀ (c : Thread nD τ) none) Set.univ p Q

variable {Q : PUnit.{1} → sProp (MT nD τ sig Unit (Elt F) ℕ UU ℕ)} {c : Dev nD}

/-! ## Loads and stores -/

section Mem

variable {cs : CoreSpace} {s : Shape} {e : EltTy} {m : Memref sig .tc cs s e} {r : Rect s} {q : PosShare TreeShare}

/-- A load of a block that is owned. -/
theorem run_load {hr : ∀ a, r.stride a = 1} {hl : m.view.LoadsAt r} {k : (r.shape.Idx → Elt F e) → Prog (TpuEff nD τ sig (Elt F) Λ₀ .tc) PUnit}
    {X : r.shape.Idx → Elt F e} :
    iprop(ownsTc c (m.slice r hr) q X ∗ (ownsTc c (m.slice r hr) q X -∗ run c (k X) Q)) ⊢ run c (.op (.load m r hl) k) Q := by
  unfold ownsTc owns
  iintro ⟨⟨%f, %hf, H⟩, Hk⟩
  iapply (wp_load_rect 𝒱₀ (c : Thread nD τ) none Set.univ (m := m) (r := r) (S := (m.slice r hr).view.set) (fun _ h => h)) $$ H
  iintro H
  rw [show (m.access r).read (Elt F) f = X from hf]
  iapply Hk; iexists f; isplitr
  · ipureintro; exact hf
  · iexact H

/-- A load of a block of an array that is owned. -/
theorem run_load_part {hl : m.view.LoadsAt r} {k : (r.shape.Idx → Elt F e) → Prog (TpuEff nD τ sig (Elt F) Λ₀ .tc) PUnit}
    {X : s.Idx → Elt F e} :
    iprop(ownsTc c m q X ∗ (ownsTc c m q X -∗ run c (k fun y => X (r.emb y)) Q)) ⊢ run c (.op (.load m r hl) k) Q := by
  unfold ownsTc owns
  iintro ⟨⟨%f, %hf, H⟩, Hk⟩
  iapply (wp_load_rect 𝒱₀ (c : Thread nD τ) none Set.univ (m := m) (r := r) (S := m.view.set) (View.set_slice_subset _ _)) $$ H
  iintro H
  rw [show (m.access r).read (Elt F) f = fun y => X (r.emb y) from funext fun y => congrFun hf (r.emb y)]
  iapply Hk; iexists f; isplitr
  · ipureintro; exact hf
  · iexact H

/-- A store of a block that is owned. -/
theorem run_store {hr : ∀ a, r.stride a = 1} {w : r.shape.Idx → Elt F e} {hx : (m.access r).Stores Finset.univ} {hm}
    {k : PUnit → Prog (TpuEff nD τ sig (Elt F) Λ₀ .tc) PUnit} {X : r.shape.Idx → Elt F e} :
    iprop(ownsTc c (m.slice r hr) fullShare X ∗ (ownsTc c (m.slice r hr) fullShare w -∗ run c (k ⟨⟩) Q)) ⊢ run c (.op (.store m r w Finset.univ hx hm) k) Q := by
  unfold ownsTc owns
  iintro ⟨⟨%f, %hf, H⟩, Hk⟩
  iapply (wp_store 𝒱₀ (c : Thread nD τ) none Set.univ (m := m) (r := r) (S := (m.slice r hr).view.set) (fun _ h => h)) $$ H
  iintro H
  iapply Hk; iexists (m.access r).write (Elt F) f w Finset.univ; isplitr
  · ipureintro; exact View.read_write_univ _ _
  · iexact H

/-- A store into a block of an array that is owned: the block holds what was stored, the rest what it held. -/
theorem run_store_part {w : r.shape.Idx → Elt F e} {hx : (m.access r).Stores Finset.univ} {hm}
    {k : PUnit → Prog (TpuEff nD τ sig (Elt F) Λ₀ .tc) PUnit} {X : s.Idx → Elt F e} :
    iprop(ownsTc c m fullShare X ∗ (∀ X', ⌜(∀ y, X' (r.emb y) = w y) ∧ ∀ x, x ∉ r.set → X' x = X x⌝ -∗ ownsTc c m fullShare X' -∗ run c (k ⟨⟩) Q))
      ⊢ run c (.op (.store m r w Finset.univ hx hm) k) Q := by
  unfold ownsTc owns
  iintro ⟨⟨%f, %hf, H⟩, Hk⟩
  iapply (wp_store 𝒱₀ (c : Thread nD τ) none Set.univ (m := m) (r := r) (S := m.view.set) (View.set_slice_subset _ _)) $$ H
  iintro H
  iapply Hk $$ %(m.view.read (Elt F) ((m.access r).write (Elt F) f w Finset.univ)) [] [H]
  · ipureintro
    refine ⟨fun y => View.read_slice_write_emb r f w (Finset.mem_univ y), fun x hx => ?_⟩
    rw [← hf]
    exact View.read_slice_write_of_not_mem r f w Finset.univ (by rwa [Rect.map_emb_univ])
  · iexists _; isplitr
    · ipureintro; rfl
    · iexact H

end Mem

/-! ## What is known all along, and what is owed -/

variable (A : Dev nD → Vec F S512x256 .f32) (B : Dev nD → Vec F S256x512 .f32) (K : Dev nD × Cell → ℕ)

/-- The invariants of all cells, under the names they were allocated at, and that the first round of each is open. -/
def records : sProp 𝕄 :=
  iprop((bigSep Finset.univ fun ck : Dev nD × Cell => cellInv ER (Rd A B) (K ck) (kcell ck))
    ∗ bigSep Finset.univ fun ck : Dev nD × Cell => reached ER (kcell ck) 0)

/-- That, and the levels. -/
def known : sProp 𝕄 := iprop(records A B K ∗ levAts L lv)

instance records_persistent : BI.Persistent (records A B K) := by unfold records; infer_instance
instance known_persistent : BI.Persistent (known A B K) := by unfold known; infer_instance

theorem inv_at (ck : Dev nD × Cell) : known A B K ⊢ cellInv ER (Rd A B) (K ck) (kcell ck) := by
  unfold known records
  exact (Idealize.SL.BI.sep_and.trans and_elimL).trans ((Idealize.SL.BI.sep_and.trans and_elimL).trans (bigSep_elim (Φ := fun ck : Dev nD × Cell => (cellInv ER (Rd A B) (K ck) (kcell ck) : sProp 𝕄)) (Finset.mem_univ ck)))
theorem reached_at (ck : Dev nD × Cell) : known A B K ⊢ reached ER (kcell ck) 0 := by
  unfold known records
  exact (Idealize.SL.BI.sep_and.trans and_elimL).trans ((Idealize.SL.BI.sep_and.trans and_elimR).trans (bigSep_elim (Φ := fun ck : Dev nD × Cell => (reached ER (kcell ck) 0 : sProp 𝕄)) (Finset.mem_univ ck)))
theorem may_wait (sm : SemLoc sig) (n : ℕ) (l : List Msg) (hs : lv ((c : Thread nD τ), sm) () = n) (hl : ∀ i ∈ l, n < i.2.1.val + 2) :
    known A B K ⊢ MayWait (c : Thread nD τ) sm () (owedL c l) := by
  unfold known
  exact (Idealize.SL.BI.sep_and.trans and_elimR).trans (mayWait_of c sm n l hs hl)

/-- What a device owes, whatever it has waited for. -/
def owesX (c : Dev nD) (O : CellTallies nD τ sig Unit) : sProp 𝕄 := iprop(∃ W, owes (c : Thread nD τ) O W)

/-! ## The barrier -/

/-- A unit to the partner in direction `k`, with the blocks in which its transfers land. -/
theorem run_greet (k : Fin 4) (O : CellTallies nD τ sig Unit) {p : PUnit → Prog (TpuEff nD τ sig (Elt F) Λ₀ .tc) PUnit} :
    iprop(known A B K ∗ owesX c (O + tallyAt (barCell (part k c)) () 1) ∗ dutyTok ER (barCell (part k c)) 0 k ∗ barPay (part k c) k
        ∗ (owesX c O -∗ run c (p ⟨⟩) Q))
      ⊢ run c (pGreet (part k c) >>= p) Q := by
  unfold pGreet semSignalWord owesX
  simp only [Prog.bind_op, Prog.bind_ret]
  iintro ⟨#HK, ⟨%W, HO⟩, Ht, Hp, Hk⟩
  iapply (Rounds.wp_signal 𝒱₀ ER (Rd A B) (c : Thread nD τ) none (dst := (part k c : Thread nD τ)) (κ := K (part k c, none))
      (d := k) (by rw [duties_bar]; exact Finset.mem_univ _) ((amount_bar A B (part k c) k).trans (by decide)) () O rfl) $$ [HO Ht Hp]
  · isplitr; · iapply (inv_at A B K (part k c, none)); iexact HK
    isplitl [HO]; · iexact HO
    isplitl [Ht]; · iexact Ht
    isplitl [Hp]; · rw [payload_bar]; iexact Hp
    iapply (reached_at A B K (part k c, none)); iexact HK
  iintro HO
  iapply Hk; iexists W; iexact HO

/-- The wait for the four partners: it hands over a landing block for each of the device's transfers. -/
theorem run_meet (l : List Msg) {p : PUnit → Prog (TpuEff nD τ sig (Elt F) Λ₀ .tc) PUnit} :
    iprop(known A B K ∗ owesX c (owedL c l) ∗ atPos ER (barCell c) 0 ∅ 0 ∗ cred (tallyAt (barCell c) () 4)
        ∗ ((owesX c (owedL c l) ∗ semVal (barCell c) 0 ∗ bigSep Finset.univ fun j : Msg => iprop(∃ Y, ownsTc (peer c j) (dstM c j) fullShare Y)) -∗ run c (p ⟨⟩) Q))
      ⊢ run c (pMeet >>= p) Q := by
  unfold pMeet semWaitWord owesX
  simp only [Prog.bind_op, Prog.bind_ret]
  iintro ⟨#HK, ⟨%W, HO⟩, Hat, Hc, Hk⟩
  iapply (Rounds.wp_wait_rest_token 𝒱₀ ER (Rd A B) (c : Thread nD τ) none (κ := K (c, none))
      (wpE_semWait_eq 𝒱₀ (c : Thread nD τ) none Set.univ) (Set.mem_univ _) () (O := owedL c l) (W := W) (R := 0) (m := 0) (T := ∅)
      (by rw [expect_bar]; decide)) $$ [Hc HO Hat]
  · isplitr; · iapply (inv_at A B K (c, none)); iexact HK
    isplitl [Hc]; · iexact Hc
    isplitl [HO]; · iexact HO
    isplitr
    · iapply (may_wait A B K (.reg barS) 1 l (lv_bar c) (fun i _ => by omega)); iexact HK
    iexact Hat
  iintro ⟨HO, Hat, -, Hpay⟩
  ihave Hp := (Entails.of_eq ((rest_bar A B c).trans (barPay_all c))) $$ Hpay
  imod (Rounds.cell_close ER (Rd A B) (Set.mem_univ (K (c, none))) (fun h => h) (R := 0 + 1) (duties_later A B (barCell c))) $$ [Hat] with Hz
  · isplitr; · iapply (inv_at A B K (c, none)); iexact HK
    iexact Hat
  iapply Hk
  isplitl [HO]; · iexists _; iexact HO
  isplitl [Hz]; · iexact Hz
  iexact Hp

/-! ## Transfers -/

/-- The right to raise a transfer's two semaphores. -/
def toks (c : Dev nD) (j : Msg) : sProp 𝕄 := iprop(dutyTok ER (sendCell c j) 0 0 ∗ dutyTok ER (recvCell (peer c j) j) 0 0)

/-- The start of a transfer, from an owned source into an owned block of the partner. -/
theorem run_put (j : Msg) (l : List Msg) {sM dM : Memref sig .tc .vmem S128x256 .bf16} (hsM : sM = srcM c j) (hdM : dM = dstM c j) (hN : dM.view.amount (.dma (recvS j).sem) = N)
    {hsc : dM.view.ref.isScScratch = false} {hsrc : sM.view.WordExact} {hdst : dM.view.WordExact}
    {hsem : DmaTarget.Typed .vmem (.dma (recvS j).sem) (.remote ((peer c j : Dev nD) : Thread nD τ) dM (.dma (sendS j).sem) hsc)}
    {p : PUnit → Prog (TpuEff nD τ sig (Elt F) Λ₀ .tc) PUnit} :
    iprop(known A B K ∗ owesX c (owedL c (j :: l)) ∗ toks c j ∗ ownsTc c sM (lent j) (msg A B c j) ∗ (∃ Y, ownsTc (peer c j) dM fullShare Y)
        ∗ ((owesX c (owedL c l) ∗ cred (tallyAt (sendCell c j) () N)) -∗ run c (p ⟨⟩) Q))
      ⊢ run c (.op (.enqueueDma sM (.remote ((peer c j : Dev nD) : Thread nD τ) dM (.dma (sendS j).sem) hsc) (.dma (recvS j).sem) hsrc hdst hsem) p) Q := by
  unfold owesX toks ownsTc owns
  iintro ⟨#HK, ⟨%W, HO⟩, ⟨Ht1, Ht2⟩, ⟨%fs, %hfs, Hs⟩, ⟨%Y, %fd, %hfd, Hd⟩, Hk⟩
  iapply (Rounds.wp_send_pointsTo 𝒱₀ ER (Rd A B) (c : Thread nD τ) none (κ₁ := K (c, some (false, j))) (κ₂ := K (peer c j, some (true, j)))
    (r₁ := 0) (r₂ := 0) (d₁ := 0) (d₂ := 0) (fd := fd) (fs := fs)
    (by rw [duties_send]; exact Finset.mem_singleton_self _) (by rw [duties_recv]; exact Finset.mem_singleton_self _)
    () () N hN (amount_send A B c j 0) (amount_recv A B (peer c j) j 0) (owedL c l) rfl (W := W)
    (by rw [payload_send]; unfold sendPay ownsTc; subst hsM; rw [← hfs]; exact owns_intro _ _ _ _)
    (by
      rw [payload_recv]; unfold recvPay ownsTc; subst hdM; rw [peer_peer, hfs]
      refine (owns_intro ((peer c j : Dev nD) : Thread nD τ) (dstM c j) fullShare _).trans ?_
      rw [View.read_write_univ])) $$ [HO Ht1 Ht2 Hs Hd]
  · isplitr; · iapply (inv_at A B K (c, some (false, j))); iexact HK
    isplitr; · iapply (inv_at A B K (peer c j, some (true, j))); iexact HK
    isplitl [Hs]; · iexact Hs
    isplitl [Hd]; · iexact Hd
    isplitl [HO]; · iexact HO
    isplitl [Ht1]; · iexact Ht1
    isplitr; · iapply (reached_at A B K (c, some (false, j))); iexact HK
    isplitl [Ht2]; · iexact Ht2
    iapply (reached_at A B K (peer c j, some (true, j))); iexact HK
  iintro ⟨Hc, HO⟩
  iapply Hk
  isplitl [HO]; · iexists W; iexact HO
  iexact Hc

/-- A device's place at a landing semaphore with the credit for its one wait, and what is left of it after the wait. -/
def hold (c : Dev nD) (j : Msg) : sProp 𝕄 := iprop(atPos ER (recvCell c j) 0 ∅ 0 ∗ cred (tallyAt (recvCell c j) () N))
def landed (c : Dev nD) (j : Msg) : sProp 𝕄 := iprop(semVal (recvCell c j) 0 ∗ ownsTc c (dstM (peer c j) j) fullShare (msg A B (peer c j) j))

/-- The wait for a landing. -/
theorem run_take (j : Msg) (l : List Msg) (hl : ∀ i ∈ l, j.2.1.val + 2 < i.2.1.val + 2) {sM dM : Memref sig .tc .vmem S128x256 .bf16} (hN : dM.view.dmaCredit = N)
    {hsrc : sM.view.WordExact} {hdst : dM.view.WordExact} {p : PUnit → Prog (TpuEff nD τ sig (Elt F) Λ₀ .tc) PUnit} :
    iprop(known A B K ∗ owesX c (owedL c l) ∗ hold c j ∗ ((owesX c (owedL c l) ∗ landed A B c j) -∗ run c (p ⟨⟩) Q))
      ⊢ run c (.op (.waitDma2 (recvS j).sem sM dM hsrc hdst) p) Q := by
  unfold owesX hold landed
  iintro ⟨#HK, ⟨%W, HO⟩, ⟨Hat, Hc⟩, Hk⟩
  iapply (Rounds.wp_wait_rest_token 𝒱₀ ER (Rd A B) (c : Thread nD τ) none (κ := K (c, some (true, j)))
      (wpE_waitDma2_eq 𝒱₀ (c : Thread nD τ) none Set.univ) (Set.mem_univ _) () (O := owedL c l) (W := W) (R := 0) (m := 0) (T := ∅)
      (by rw [Nat.zero_add, hN]; exact (expect_recv A B c j).symm)) $$ [Hc HO Hat]
  · isplitr; · iapply (inv_at A B K (c, some (true, j))); iexact HK
    isplitl [Hc]; · rw [hN]; iexact Hc
    isplitl [HO]; · iexact HO
    isplitr
    · iapply (may_wait A B K (.dma (recvS j).sem) (j.2.1.val + 2) l (lv_recv c j) hl); iexact HK
    iexact Hat
  iintro ⟨HO, Hat, -, Hpay⟩
  ihave Hp := (Entails.of_eq (rest_recv A B c j)) $$ Hpay
  imod (Rounds.cell_close ER (Rd A B) (Set.mem_univ (K (c, some (true, j)))) (fun h => h) (R := 0 + 1) (duties_later A B (recvCell c j))) $$ [Hat] with Hz
  · isplitr; · iapply (inv_at A B K (c, some (true, j))); iexact HK
    iexact Hat
  iapply Hk
  isplitl [HO]; · iexists _; iexact HO
  isplitl [Hz]; · iexact Hz
  unfold recvPay
  iexact Hp

/-- A transfer on its way, for its sender, and after the wait for its source. -/
def flying (c : Dev nD) (j : Msg) : sProp 𝕄 := iprop(atPos ER (sendCell c j) 0 ∅ 0 ∗ cred (tallyAt (sendCell c j) () N))
def flown (c : Dev nD) (j : Msg) : sProp 𝕄 := iprop(semVal (sendCell c j) 0 ∗ ownsTc c (srcM c j) (lent j) (msg A B c j))

/-- The wait for a source. -/
theorem run_back (j : Msg) {sM dM : Memref sig .tc .vmem S128x256 .bf16} (hN : dM.view.dmaCredit = N)
    {hsrc : sM.view.WordExact} {hdst : dM.view.WordExact} {p : PUnit → Prog (TpuEff nD τ sig (Elt F) Λ₀ .tc) PUnit} :
    iprop(known A B K ∗ owesX c (owedL c []) ∗ flying c j ∗ ((owesX c (owedL c []) ∗ flown A B c j) -∗ run c (p ⟨⟩) Q))
      ⊢ run c (.op (.waitDma2 (sendS j).sem sM dM hsrc hdst) p) Q := by
  unfold owesX flying flown
  iintro ⟨#HK, ⟨%W, HO⟩, ⟨Hat, Hc⟩, Hk⟩
  iapply (Rounds.wp_wait_rest_token 𝒱₀ ER (Rd A B) (c : Thread nD τ) none (κ := K (c, some (false, j)))
      (wpE_waitDma2_eq 𝒱₀ (c : Thread nD τ) none Set.univ) (Set.mem_univ _) () (O := owedL c []) (W := W) (R := 0) (m := 0) (T := ∅)
      (by rw [Nat.zero_add, hN]; exact (expect_send A B c j).symm)) $$ [Hc HO Hat]
  · isplitr; · iapply (inv_at A B K (c, some (false, j))); iexact HK
    isplitl [Hc]; · rw [hN]; iexact Hc
    isplitl [HO]; · iexact HO
    isplitr
    · iapply (may_wait A B K (.dma (sendS j).sem) 0 [] (lv_send c j) (fun i hi => absurd hi List.not_mem_nil)); iexact HK
    iexact Hat
  iintro ⟨HO, Hat, -, Hpay⟩
  ihave Hp := (Entails.of_eq (rest_send A B c j)) $$ Hpay
  imod (Rounds.cell_close ER (Rd A B) (Set.mem_univ (K (c, some (false, j)))) (fun h => h) (R := 0 + 1) (duties_later A B (sendCell c j))) $$ [Hat] with Hz
  · isplitr; · iapply (inv_at A B K (c, some (false, j))); iexact HK
    iexact Hat
  iapply Hk
  isplitl [HO]; · iexists _; iexact HO
  isplitl [Hz]; · iexact Hz
  unfold sendPay
  iexact Hp

end Cert.HyperSum

end
-- ==== Proof.Steps.lean ====
/-
# One rule for each piece of the body

What a fill, an addition, a transfer, a wait, and the first and last products need and leave, in terms of the blocks.
-/
module

public import Idealize.ShloMosaic.Lib.MemrefSat
public import proofs.«01_k».proof.Proof.Rules

@[expose] public section

noncomputable section

namespace Cert.HyperSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Q : PUnit.{1} → sProp (MT nD τ sig Unit (Elt F) ℕ UU ℕ)} {c : Dev nD}
variable (A : Dev nD → Vec F S512x256 .f32) (B : Dev nD → Vec F S256x512 .f32) (K : Dev nD × Cell → ℕ)

/-- A block that is owned, whatever it holds. -/
def free (c : Dev nD) {s : Shape} {e : EltTy} (m : Memref sig .tc .vmem s e) : sProp 𝕄 := iprop(∃ Y, ownsTc c m fullShare Y)

theorem free_of {s : Shape} {e : EltTy} {m : Memref sig .tc .vmem s e} {X : s.Idx → Elt F e} : ownsTc c m fullShare X ⊢ (free c m : sProp 𝕄) := by
  unfold free; iintro H; iexists X; iexact H

/-- A block in two halves, each of which may be read. -/
theorem halves {s : Shape} {e : EltTy} {m : Memref sig .tc .vmem s e} {X : s.Idx → Elt F e} :
    (ownsTc c m fullShare X : sProp 𝕄) ⊢ iprop(ownsTc c m fullShare.left X ∗ ownsTc c m fullShare.right X) :=
  (owns_halves (c : Thread nD τ) m fullShare X).1
theorem joined {s : Shape} {e : EltTy} {m : Memref sig .tc .vmem s e} {X : s.Idx → Elt F e} :
    iprop(ownsTc c m fullShare.left X ∗ ownsTc c m fullShare.right X) ⊢ (ownsTc c m fullShare X : sProp 𝕄) :=
  (owns_halves (c : Thread nD τ) m fullShare X).2

theorem srcM_mid (c : Dev nD) (h : Fin 2) (s : Fin 4) (ch : Fin 2) : srcM c (h, s.castSucc, ch) = sendB (row8 s ch) h := dif_pos s.isLt
theorem dstM_mid (c : Dev nD) (h : Fin 2) (s : Fin 4) (ch : Fin 2) : dstM c (h, s.castSucc, ch) = commB (row8 s ch) h := dif_pos s.isLt
theorem srcM_last (c : Dev nD) (h ch : Fin 2) : srcM c (h, 4, ch) = gathB (kept h c ch) h := rfl
theorem dstM_last (c : Dev nD) (h ch : Fin 2) : dstM c (h, 4, ch) = gathB (kept h c ch) h := rfl
theorem lent_mid (h : Fin 2) (s : Fin 4) (ch : Fin 2) : lent (h, s.castSucc, ch) = fullShare := if_pos s.isLt
theorem lent_last (h ch : Fin 2) : lent (h, 4, ch) = fullShare.left := rfl

/-! ## Fills and products -/

/-- The first exchange's block is filled with what the transfer carries. -/
theorem run_fill (h ch : Fin 2) {p : PUnit → Prog (TpuEff nD τ sig (Elt F) Λ₀ .tc) PUnit} :
    iprop(ownsTc c aM fullShare (A c) ∗ ownsTc c bM fullShare (B c) ∗ free c (srcM c (h, 0, ch))
        ∗ ((ownsTc c aM fullShare (A c) ∗ ownsTc c bM fullShare (B c) ∗ ownsTc c (srcM c (h, 0, ch)) fullShare (msg A B c (h, 0, ch))) -∗ run c (p ⟨⟩) Q))
      ⊢ run c (fillAt c h ch >>= p) Q := by
  rw [show srcM c (h, 0, ch) = sendB (row8 0 ch) h from srcM_mid c h 0 ch]
  unfold fillAt pFill free
  simp only [Prog.lift, Prog.bind_op, Prog.bind_ret]
  iintro ⟨Ha, Hb, ⟨%Y, Hs⟩, Hk⟩
  iapply (run_load_part (q := fullShare) (X := A c))
  isplitl [Ha]; · iexact Ha
  iintro Ha
  iapply (run_load_part (q := fullShare) (X := B c))
  isplitl [Hb]; · iexact Hb
  iintro Hb
  iapply (run_load (hr := fun _ => rfl) (q := fullShare) (X := Y))
  isplitl [Hs]; · iexact Hs
  iintro Hs
  iapply (run_store (hr := fun _ => rfl) (X := Y))
  isplitl [Hs]; · iexact Hs
  iintro Hs
  iapply Hk
  isplitl [Ha]; · iexact Ha
  isplitl [Hb]; · iexact Hb
  iexact Hs

/-- A quadrant of the result is set to the product of the rows that the device keeps. -/
theorem run_keep (h : Fin 2) (X : S512x512.Idx → Elt F .f32) {p : PUnit → Prog (TpuEff nD τ sig (Elt F) Λ₀ .tc) PUnit} :
    iprop(ownsTc c aM fullShare (A c) ∗ ownsTc c bM fullShare (B c) ∗ ownsTc c outM fullShare X
        ∗ (∀ X', ⌜(∀ y, X' ((rectQ (bit h c) h).emb y) = keepV (aKeep A c h) (bHalf B c h) y) ∧ ∀ x, x ∉ (rectQ (bit h c) h).set → X' x = X x⌝
          -∗ (ownsTc c aM fullShare (A c) ∗ ownsTc c bM fullShare (B c) ∗ ownsTc c outM fullShare X') -∗ run c (p ⟨⟩) Q))
      ⊢ run c (keepAt c h >>= p) Q := by
  unfold keepAt pKeep
  simp only [Prog.lift, Prog.bind_op, Prog.bind_ret]
  iintro ⟨Ha, Hb, Ho, Hk⟩
  iapply (run_load_part (q := fullShare) (X := A c))
  isplitl [Ha]; · iexact Ha
  iintro Ha
  iapply (run_load_part (q := fullShare) (X := B c))
  isplitl [Hb]; · iexact Hb
  iintro Hb
  iapply (run_load_part (q := fullShare) (X := X))
  isplitl [Ho]; · iexact Ho
  iintro Ho
  iapply (run_store_part (X := X))
  isplitl [Ho]; · iexact Ho
  iintro %X' %hX Ho
  iapply Hk $$ %X' [] [Ha Hb Ho]
  · ipureintro; exact hX
  isplitl [Ha]; · iexact Ha
  isplitl [Hb]; · iexact Hb
  iexact Ho

/-- What landed is added to the kept block, and the next exchange's block filled. -/
theorem run_add (h : Fin 2) (s : Fin 3) (ch : Fin 2) {p : PUnit → Prog (TpuEff nD τ sig (Elt F) Λ₀ .tc) PUnit} :
    iprop(ownsTc c (outB (kept h c ch) h) fullShare (acc A B c h s.castSucc.castSucc ch)
        ∗ ownsTc c (commB (row8 s.castSucc ch) h) fullShare (msg A B (peer c (h, s.castSucc.castSucc, ch)) (h, s.castSucc.castSucc, ch))
        ∗ free c (sendB (row8 s.succ ch) h)
        ∗ ((ownsTc c (outB (kept h c ch) h) fullShare (acc A B c h s.succ.castSucc ch)
            ∗ ownsTc c (commB (row8 s.castSucc ch) h) fullShare (msg A B (peer c (h, s.castSucc.castSucc, ch)) (h, s.castSucc.castSucc, ch))
            ∗ ownsTc c (sendB (row8 s.succ ch) h) fullShare (msg A B c (h, s.succ.castSucc, ch))) -∗ run c (p ⟨⟩) Q))
      ⊢ run c (addAt c h s ch >>= p) Q := by
  rw [show acc A B c h s.succ.castSucc ch = _ from acc_succ A B c h s.castSucc ch, show msg A B c (h, s.succ.castSucc, ch) = _ from msg_succ A B c h s.castSucc ch]
  unfold addAt pAdd free
  simp only [Prog.lift, Prog.bind_op, Prog.bind_ret]
  generalize acc A B c h s.castSucc.castSucc ch = v
  generalize msg A B (peer c (h, s.castSucc.castSucc, ch)) (h, s.castSucc.castSucc, ch) = w
  iintro ⟨Ho, Hc, ⟨%Y, Hs⟩, Hk⟩
  iapply (run_load (hr := fun _ => rfl) (q := fullShare) (X := v))
  isplitl [Ho]; · iexact Ho
  iintro Ho
  iapply (run_load (hr := fun _ => rfl) (q := fullShare) (X := w))
  isplitl [Hc]; · iexact Hc
  iintro Hc
  iapply (run_load (hr := fun _ => rfl) (q := fullShare) (X := v))
  isplitl [Ho]; · iexact Ho
  iintro Ho
  iapply (run_store (hr := fun _ => rfl) (X := v))
  isplitl [Ho]; · iexact Ho
  iintro Ho
  iapply (run_load (hr := fun _ => rfl) (q := fullShare) (X := Y))
  isplitl [Hs]; · iexact Hs
  iintro Hs
  iapply (run_store (hr := fun _ => rfl) (X := Y))
  isplitl [Hs]; · iexact Hs
  iintro Hs
  iapply Hk
  isplitl [Ho]; · iexact Ho
  isplitl [Hc]; · iexact Hc
  iexact Hs

/-- What landed in the fourth exchange is added into the block that the last one sends. -/
theorem run_total (h ch : Fin 2) {p : PUnit → Prog (TpuEff nD τ sig (Elt F) Λ₀ .tc) PUnit} :
    iprop(ownsTc c (outB (kept h c ch) h) fullShare (acc A B c h 3 ch)
        ∗ ownsTc c (commB (row8 3 ch) h) fullShare (msg A B (peer c (h, 3, ch)) (h, 3, ch))
        ∗ free c (gathB (kept h c ch) h)
        ∗ ((ownsTc c (outB (kept h c ch) h) fullShare (acc A B c h 3 ch)
            ∗ ownsTc c (commB (row8 3 ch) h) fullShare (msg A B (peer c (h, 3, ch)) (h, 3, ch))
            ∗ ownsTc c (gathB (kept h c ch) h) fullShare (msg A B c (h, 4, ch))) -∗ run c (p ⟨⟩) Q))
      ⊢ run c (lastAt c h ch >>= p) Q := by
  rw [show msg A B c (h, 4, ch) = roundV (acc A B c h 3 ch) (msg A B (peer c (h, 3, ch)) (h, 3, ch)) from msg_succ A B c h 3 ch]
  unfold lastAt pLast free
  simp only [Prog.lift, Prog.bind_op, Prog.bind_ret]
  generalize acc A B c h 3 ch = v
  generalize msg A B (peer c (h, 3, ch)) (h, 3, ch) = w
  iintro ⟨Ho, Hc, ⟨%Y, Hs⟩, Hk⟩
  iapply (run_load (hr := fun _ => rfl) (q := fullShare) (X := v))
  isplitl [Ho]; · iexact Ho
  iintro Ho
  iapply (run_load (hr := fun _ => rfl) (q := fullShare) (X := w))
  isplitl [Hc]; · iexact Hc
  iintro Hc
  iapply (run_load (hr := fun _ => rfl) (q := fullShare) (X := Y))
  isplitl [Hs]; · iexact Hs
  iintro Hs
  iapply (run_store (hr := fun _ => rfl) (X := Y))
  isplitl [Hs]; · iexact Hs
  iintro Hs
  iapply Hk
  isplitl [Ho]; · iexact Ho
  isplitl [Hc]; · iexact Hc
  iexact Hs

theorem emb_whole (x : S512x512.Idx) : (Rect.unit (s := S512x512) ![0, 0] S512x512.size inb_S512x512_S512x512_0_0).emb x = x := by
  funext a
  refine Fin.ext ?_
  rw [Rect.emb_apply]
  revert a
  refine Fin.forall_fin_two.mpr ⟨?_, ?_⟩
  · show 0 + 1 * (x 0).val = (x 0).val; omega
  · show 0 + 1 * (x 1).val = (x 1).val; omega

/-- The result is made from the gathered array. -/
theorem run_fin {q : PosShare TreeShare} {p : PUnit → Prog (TpuEff nD τ sig (Elt F) Λ₀ .tc) PUnit} :
    iprop(ownsTc c gathM q (gAll A B c) ∗ free c outM
        ∗ ((ownsTc c gathM q (gAll A B c) ∗ ownsTc c outM fullShare (outAt A B c)) -∗ run c (p ⟨⟩) Q))
      ⊢ run c (pFin >>= p) Q := by
  unfold outAt pFin free
  simp only [Prog.lift, Prog.bind_op, Prog.bind_ret]
  generalize gAll A B c = g
  iintro ⟨Hg, ⟨%Y, Ho⟩, Hk⟩
  iapply (run_load_part (q := q) (X := g))
  isplitl [Hg]; · iexact Hg
  iintro Hg
  rw [show (fun y => g ((Rect.unit (s := S512x512) ![0, 0] S512x512.size inb_S512x512_S512x512_0_0).emb y)) = g from funext fun y => congrArg g (emb_whole y)]
  iapply (run_load_part (q := fullShare) (X := Y))
  isplitl [Ho]; · iexact Ho
  iintro Ho
  iapply (run_store_part (X := Y))
  isplitl [Ho]; · iexact Ho
  iintro %X' %hX Ho
  have e : X' = finV g := funext fun x => by have := hX.1 x; rwa [emb_whole] at this
  subst e
  iapply Hk
  isplitl [Hg]; · iexact Hg
  iexact Ho

/-! ## Transfers -/

/-- What a device needs for starting a transfer, besides its source. -/
def slot (c : Dev nD) (j : Msg) : sProp 𝕄 := iprop(toks c j ∗ atPos ER (sendCell c j) 0 ∅ 0 ∗ free (peer c j) (dstM c j))

/-- The start of a transfer of one of the first four exchanges, whose source is lent whole. -/
theorem run_put8 (h : Fin 2) (s : Fin 4) (ch : Fin 2) (l : List Msg) {p : PUnit → Prog (TpuEff nD τ sig (Elt F) Λ₀ .tc) PUnit} :
    iprop(known A B K ∗ owesX c (owedL c ((h, s.castSucc, ch) :: l)) ∗ slot c (h, s.castSucc, ch)
        ∗ ownsTc c (sendB (row8 s ch) h) fullShare (msg A B c (h, s.castSucc, ch))
        ∗ ((owesX c (owedL c l) ∗ flying c (h, s.castSucc, ch)) -∗ run c (p ⟨⟩) Q))
      ⊢ run c (pPut8 (peer c (h, s.castSucc, ch)) h s ch >>= p) Q := by
  unfold pPut8 slot free flying
  simp only [Prog.lift, Prog.bind_op, Prog.bind_ret]
  rw [dstM_mid]
  iintro ⟨#HK, HO, ⟨Ht, Hat, Hd⟩, Hs, Hk⟩
  iapply (run_put A B K (h, s.castSucc, ch) l (srcM_mid c h s ch).symm (dstM_mid c h s ch).symm (credit_comm _ _))
  isplitr; · iexact HK
  isplitl [HO]; · iexact HO
  isplitl [Ht]; · iexact Ht
  isplitl [Hs]; · rw [lent_mid]; iexact Hs
  isplitl [Hd]; · iexact Hd
  iintro ⟨HO, Hc⟩
  iapply Hk
  isplitl [HO]; · iexact HO
  isplitl [Hat]; · iexact Hat
  iexact Hc

/-- The start of a transfer of the last exchange: the device keeps the right to read the source. -/
theorem run_put4 (h ch : Fin 2) (l : List Msg) {p : PUnit → Prog (TpuEff nD τ sig (Elt F) Λ₀ .tc) PUnit} :
    iprop(known A B K ∗ owesX c (owedL c ((h, 4, ch) :: l)) ∗ slot c (h, 4, ch)
        ∗ ownsTc c (gathB (kept h c ch) h) fullShare (msg A B c (h, 4, ch))
        ∗ ((owesX c (owedL c l) ∗ flying c (h, 4, ch) ∗ ownsTc c (gathB (kept h c ch) h) fullShare.right (msg A B c (h, 4, ch))) -∗ run c (p ⟨⟩) Q))
      ⊢ run c (putAt c h ch >>= p) Q := by
  unfold putAt pPut4 slot free flying
  simp only [Prog.lift, Prog.bind_op, Prog.bind_ret]
  rw [dstM_last]
  iintro ⟨#HK, HO, ⟨Ht, Hat, Hd⟩, Hs, Hk⟩
  ihave Hs' := halves $$ Hs
  icases Hs' with ⟨Hl, Hr⟩
  iapply (run_put A B K (h, 4, ch) l (srcM_last c h ch).symm (dstM_last c h ch).symm (credit_gath _ _))
  isplitr; · iexact HK
  isplitl [HO]; · iexact HO
  isplitl [Ht]; · iexact Ht
  isplitl [Hl]; · rw [lent_last]; iexact Hl
  isplitl [Hd]; · iexact Hd
  iintro ⟨HO, Hc⟩
  iapply Hk
  isplitl [HO]; · iexact HO
  isplitl [Hat Hc]
  · isplitl [Hat]; · iexact Hat
    iexact Hc
  iexact Hr

/-- The wait for a landing of one of the first four exchanges; -/
theorem run_take8 (h : Fin 2) (s : Fin 4) (ch : Fin 2) (l : List Msg) (hl : ∀ i ∈ l, s.val < i.2.1.val)
    {p : PUnit → Prog (TpuEff nD τ sig (Elt F) Λ₀ .tc) PUnit} :
    iprop(known A B K ∗ owesX c (owedL c l) ∗ hold c (h, s.castSucc, ch)
        ∗ ((owesX c (owedL c l) ∗ semVal (recvCell c (h, s.castSucc, ch)) 0
          ∗ ownsTc c (commB (row8 s ch) h) fullShare (msg A B (peer c (h, s.castSucc, ch)) (h, s.castSucc, ch))) -∗ run c (p ⟨⟩) Q))
      ⊢ run c (pTake8 h s ch >>= p) Q := by
  have e := run_take (Q := Q) (c := c) A B K (h, s.castSucc, ch) l (fun i hi => Nat.add_lt_add_right (hl i hi) 2) (sM := sendB (row8 s ch) h) (dM := commB (row8 s ch) h)
    (credit_comm _ _) (hsrc := (Memref.isWhole_whole cc0_scratch1).wordExact_slice rfl _ (words8 _ h))
    (hdst := (Memref.isWhole_whole cc0_scratch0).wordExact_slice rfl _ (words8 _ h)) (p := p)
  unfold landed at e
  rw [dstM_mid] at e
  exact e
/-- and of the last one. -/
theorem run_take4 (h ch : Fin 2) {p : PUnit → Prog (TpuEff nD τ sig (Elt F) Λ₀ .tc) PUnit} :
    iprop(known A B K ∗ owesX c (owedL c []) ∗ hold c (h, 4, ch)
        ∗ ((owesX c (owedL c []) ∗ semVal (recvCell c (h, 4, ch)) 0
          ∗ ownsTc c (gathB (away h c ch) h) fullShare (msg A B (peer c (h, 4, ch)) (h, 4, ch))) -∗ run c (p ⟨⟩) Q))
      ⊢ run c (takeAt c h ch >>= p) Q := by
  have e := run_take (Q := Q) (c := c) A B K (h, 4, ch) [] (fun i hi => absurd hi List.not_mem_nil) (sM := gathB (kept h c ch) h) (dM := gathB (kept h c ch) h)
    (credit_gath _ _) (hsrc := (Memref.isWhole_whole cc0_scratch2).wordExact_slice rfl _ (words4 _ h))
    (hdst := (Memref.isWhole_whole cc0_scratch2).wordExact_slice rfl _ (words4 _ h)) (p := p)
  unfold landed at e
  rw [dstM_last, kept_peer_last] at e
  exact e

/-- The wait for a source of one of the first four exchanges; -/
theorem run_back8 (h : Fin 2) (s : Fin 4) (ch : Fin 2) {p : PUnit → Prog (TpuEff nD τ sig (Elt F) Λ₀ .tc) PUnit} :
    iprop(known A B K ∗ owesX c (owedL c []) ∗ flying c (h, s.castSucc, ch)
        ∗ ((owesX c (owedL c []) ∗ semVal (sendCell c (h, s.castSucc, ch)) 0 ∗ free c (sendB (row8 s ch) h)) -∗ run c (p ⟨⟩) Q))
      ⊢ run c (pBack8 h s ch >>= p) Q := by
  have e := run_back (Q := Q) (c := c) A B K (h, s.castSucc, ch) (sM := commB (row8 s ch) h) (dM := sendB (row8 s ch) h)
    (credit_send _ _) (hsrc := (Memref.isWhole_whole cc0_scratch0).wordExact_slice rfl _ (words8 _ h))
    (hdst := (Memref.isWhole_whole cc0_scratch1).wordExact_slice rfl _ (words8 _ h)) (p := p)
  unfold flown at e
  rw [srcM_mid, lent_mid] at e
  refine BIBase.Entails.trans ?_ e
  iintro ⟨HK, HO, Hf, Hk⟩
  isplitl [HK]; · iexact HK
  isplitl [HO]; · iexact HO
  isplitl [Hf]; · iexact Hf
  iintro ⟨HO, Hz, Hs⟩
  iapply Hk
  isplitl [HO]; · iexact HO
  isplitl [Hz]; · iexact Hz
  iapply free_of; iexact Hs
/-- and of the last one. -/
theorem run_back4 (h ch : Fin 2) {p : PUnit → Prog (TpuEff nD τ sig (Elt F) Λ₀ .tc) PUnit} :
    iprop(known A B K ∗ owesX c (owedL c []) ∗ flying c (h, 4, ch)
        ∗ ((owesX c (owedL c []) ∗ semVal (sendCell c (h, 4, ch)) 0 ∗ ownsTc c (gathB (kept h c ch) h) fullShare.left (msg A B c (h, 4, ch))) -∗ run c (p ⟨⟩) Q))
      ⊢ run c (backAt c h ch >>= p) Q := by
  have e := run_back (Q := Q) (c := c) A B K (h, 4, ch) (sM := gathB (kept h c ch) h) (dM := gathB (kept h c ch) h)
    (credit_gath _ _) (hsrc := (Memref.isWhole_whole cc0_scratch2).wordExact_slice rfl _ (words4 _ h))
    (hdst := (Memref.isWhole_whole cc0_scratch2).wordExact_slice rfl _ (words4 _ h)) (p := p)
  unfold flown at e
  rw [srcM_last, lent_last] at e
  exact e

end Cert.HyperSum

end
-- ==== Proof.Phases.lean ====
/-
# The phases of the body

The body is a sequence of phases, and a phase does the same for each column half and chunk.
-/
module

public import proofs.«01_k».proof.Proof.Steps

@[expose] public section

noncomputable section

namespace Cert.HyperSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Q : PUnit.{1} → sProp (MT nD τ sig Unit (Elt F) ℕ UU ℕ)} {c : Dev nD}
variable (A : Dev nD → Vec F S512x256 .f32) (B : Dev nD → Vec F S256x512 .f32) (K : Dev nD × Cell → ℕ)

/-! ## Four at a time -/

/-- Something for each column half and chunk. -/
def four (P : Fin 2 → Fin 2 → sProp 𝕄) : sProp 𝕄 := bigSep Finset.univ fun x : Fin 2 × Fin 2 => P x.1 x.2

theorem four_eq (P : Fin 2 → Fin 2 → sProp 𝕄) : four P = iprop(P 0 0 ∗ P 1 0 ∗ P 0 1 ∗ P 1 1) := by
  unfold four
  rw [bigSep_univ_eq_bigSepL [((0 : Fin 2), (0 : Fin 2)), (1, 0), (0, 1), (1, 1)] (by decide) (by decide)]
  rw [bigSepL_cons_cons, bigSepL_cons_cons, bigSepL_cons_cons, bigSepL_singleton]
  rfl
theorem four_sep (P R : Fin 2 → Fin 2 → sProp 𝕄) : four (fun h ch => iprop(P h ch ∗ R h ch)) = iprop(four P ∗ four R) := bigSep_sep' _ _ _
theorem four_mono {P R : Fin 2 → Fin 2 → sProp 𝕄} (e : ∀ h ch, P h ch ⊢ R h ch) : four P ⊢ four R := bigSep_mono fun x _ => e x.1 x.2

/-- One step for each column half and chunk, in the program's order. -/
def seq4 (f : Fin 2 → Fin 2 → Prog (TpuEff nD τ sig (Elt F) Λ₀ .tc) PUnit) : Prog (TpuEff nD τ sig (Elt F) Λ₀ .tc) PUnit := do
  f 0 0; f 1 0; f 0 1; f 1 1

/-- A phase runs if its steps do, one after the other. -/
theorem run_seq4 {f : Fin 2 → Fin 2 → Prog (TpuEff nD τ sig (Elt F) Λ₀ .tc) PUnit} {O₀ O₁ O₂ O₃ O₄ : sProp 𝕄} {P R : Fin 2 → Fin 2 → sProp 𝕄}
    (r0 : ∀ p : PUnit → Prog (TpuEff nD τ sig (Elt F) Λ₀ .tc) PUnit, iprop(known A B K ∗ O₀ ∗ P 0 0 ∗ ((O₁ ∗ R 0 0) -∗ run c (p ⟨⟩) Q)) ⊢ run c (f 0 0 >>= p) Q)
    (r1 : ∀ p : PUnit → Prog (TpuEff nD τ sig (Elt F) Λ₀ .tc) PUnit, iprop(known A B K ∗ O₁ ∗ P 1 0 ∗ ((O₂ ∗ R 1 0) -∗ run c (p ⟨⟩) Q)) ⊢ run c (f 1 0 >>= p) Q)
    (r2 : ∀ p : PUnit → Prog (TpuEff nD τ sig (Elt F) Λ₀ .tc) PUnit, iprop(known A B K ∗ O₂ ∗ P 0 1 ∗ ((O₃ ∗ R 0 1) -∗ run c (p ⟨⟩) Q)) ⊢ run c (f 0 1 >>= p) Q)
    (r3 : ∀ p : PUnit → Prog (TpuEff nD τ sig (Elt F) Λ₀ .tc) PUnit, iprop(known A B K ∗ O₃ ∗ P 1 1 ∗ ((O₄ ∗ R 1 1) -∗ run c (p ⟨⟩) Q)) ⊢ run c (f 1 1 >>= p) Q)
    (p : PUnit → Prog (TpuEff nD τ sig (Elt F) Λ₀ .tc) PUnit) :
    iprop(known A B K ∗ O₀ ∗ four P ∗ ((O₄ ∗ four R) -∗ run c (p ⟨⟩) Q)) ⊢ run c (seq4 f >>= p) Q := by
  unfold seq4
  simp only [bind_assoc]
  rw [four_eq, four_eq]
  iintro ⟨#HK, HO, ⟨P0, P1, P2, P3⟩, Hk⟩
  iapply (r0 _)
  isplitr; · iexact HK
  isplitl [HO]; · iexact HO
  isplitl [P0]; · iexact P0
  iintro ⟨HO, R0⟩
  iapply (r1 _)
  isplitr; · iexact HK
  isplitl [HO]; · iexact HO
  isplitl [P1]; · iexact P1
  iintro ⟨HO, R1⟩
  iapply (r2 _)
  isplitr; · iexact HK
  isplitl [HO]; · iexact HO
  isplitl [P2]; · iexact P2
  iintro ⟨HO, R2⟩
  iapply (r3 _)
  isplitr; · iexact HK
  isplitl [HO]; · iexact HO
  isplitl [P3]; · iexact P3
  iintro ⟨HO, R3⟩
  iapply Hk
  isplitl [HO]; · iexact HO
  isplitl [R0]; · iexact R0
  isplitl [R1]; · iexact R1
  isplitl [R2]; · iexact R2
  iexact R3

/-! ## Blocks and transfers by fours -/

/-- The transfers by exchange, -/
def msgE : Fin 5 × (Fin 2 × Fin 2) ≃ Msg :=
  ⟨fun x => (x.2.1, x.1, x.2.2), fun j => (j.2.1, (j.1, j.2.2)), fun _ => rfl, fun _ => rfl⟩
theorem bigSep_msgs (P : Msg → sProp 𝕄) :
    bigSep Finset.univ P = iprop(four (fun h ch => P (h, 0, ch)) ∗ four (fun h ch => P (h, 1, ch)) ∗ four (fun h ch => P (h, 2, ch))
      ∗ four (fun h ch => P (h, 3, ch)) ∗ four (fun h ch => P (h, 4, ch))) := by
  rw [bigSep_univ_equiv msgE, bigSep_univ_prod, bigSep_univ_eq_bigSepL [(0 : Fin 5), 1, 2, 3, 4] (by decide) (by decide)]
  rw [bigSepL_cons_cons, bigSepL_cons_cons, bigSepL_cons_cons, bigSepL_cons_cons, bigSepL_singleton]
  rfl

/-- the blocks of a 1024 x 512 array by exchange, -/
def rowsE : Fin 4 × (Fin 2 × Fin 2) ≃ Fin 8 × Fin 2 :=
  Equiv.ofBijective (fun x => (row8 x.1 x.2.2, x.2.1)) (by decide)
theorem bigSep_rows8 (P : Fin 8 × Fin 2 → sProp 𝕄) :
    bigSep Finset.univ P = iprop(four (fun h ch => P (row8 0 ch, h)) ∗ four (fun h ch => P (row8 1 ch, h)) ∗ four (fun h ch => P (row8 2 ch, h))
      ∗ four (fun h ch => P (row8 3 ch, h))) := by
  rw [bigSep_univ_equiv rowsE, bigSep_univ_prod, bigSep_univ_eq_bigSepL [(0 : Fin 4), 1, 2, 3] (by decide) (by decide)]
  rw [bigSepL_cons_cons, bigSepL_cons_cons, bigSepL_cons_cons, bigSepL_singleton]
  rfl

/-- and the blocks of a 512 x 512 array: those that a device keeps, and the others. -/
def keptE (c : Dev nD) : Fin 2 × (Fin 2 × Fin 2) ≃ Fin 4 × Fin 2 :=
  Equiv.ofBijective (fun x => (if x.1 = 0 then kept x.2.1 c x.2.2 else away x.2.1 c x.2.2, x.2.1)) (by revert c; decide +kernel)
theorem bigSep_rows4 (c : Dev nD) (P : Fin 4 × Fin 2 → sProp 𝕄) :
    bigSep Finset.univ P = iprop(four (fun h ch => P (kept h c ch, h)) ∗ four (fun h ch => P (away h c ch, h))) := by
  rw [bigSep_univ_equiv (keptE c), bigSep_univ_prod, bigSep_univ_eq_bigSepL [(0 : Fin 2), 1] (by decide) (by decide)]
  rw [bigSepL_cons_cons, bigSepL_singleton]
  rfl

/-- A 1024 x 512 array is its blocks, whatever they hold; -/
theorem free_split8 {e : EltTy} {m : Memref sig .tc .vmem S1024x512 e} :
    (free c m : sProp 𝕄) ⊢ bigSep Finset.univ fun t : Fin 8 × Fin 2 => free c (m.slice (fam8 t) (fun _ => rfl)) := by
  unfold free
  iintro ⟨%X, H⟩
  iapply ((owns_rects (c : Thread nD τ) m fullShare fam8 (fun _ _ => rfl) fam8_disj fam8_cover X).trans
    (bigSep_mono fun t _ => free_of (X := fun j => X ((fam8 t).emb j))))
  iexact H
theorem free_join8 {e : EltTy} {m : Memref sig .tc .vmem S1024x512 e} :
    bigSep Finset.univ (fun t : Fin 8 × Fin 2 => free c (m.slice (fam8 t) (fun _ => rfl))) ⊢ (free c m : sProp 𝕄) := by
  unfold free
  refine (bigSep_exists_pi Finset.univ fun (t : Fin 8 × Fin 2) (Y : S128x256.Idx → Elt F e) => ownsTc c (m.slice (fam8 t) (fun _ => rfl)) fullShare Y).trans ?_
  iintro ⟨%Y, H⟩
  iexists Rect.glue fam8 fam8_cover Y
  iapply (owns_of_rects (c : Thread nD τ) m fullShare fam8 (fun _ _ => rfl) fam8_disj fam8_cover (Rect.glue fam8 fam8_cover Y))
  rw [bigSep_congr fun t _ => congrArg (owns (c : Thread nD τ) (m.slice (fam8 t) (fun _ => rfl)) fullShare) (funext fun y => Rect.glue_emb fam8 fam8_cover fam8_disj Y t y)]
  iexact H

/-- so is a 512 x 512 array; -/
theorem free_split4 {e : EltTy} {m : Memref sig .tc .vmem S512x512 e} :
    (free c m : sProp 𝕄) ⊢ bigSep Finset.univ fun t : Fin 4 × Fin 2 => free c (m.slice (fam4 t) (fun _ => rfl)) := by
  unfold free
  iintro ⟨%X, H⟩
  iapply ((owns_rects (c : Thread nD τ) m fullShare fam4 (fun _ _ => rfl) fam4_disj fam4_cover X).trans
    (bigSep_mono fun t _ => free_of (X := fun j => X ((fam4 t).emb j))))
  iexact H
theorem free_join4 {e : EltTy} {m : Memref sig .tc .vmem S512x512 e} :
    bigSep Finset.univ (fun t : Fin 4 × Fin 2 => free c (m.slice (fam4 t) (fun _ => rfl))) ⊢ (free c m : sProp 𝕄) := by
  unfold free
  refine (bigSep_exists_pi Finset.univ fun (t : Fin 4 × Fin 2) (Y : S128x256.Idx → Elt F e) => ownsTc c (m.slice (fam4 t) (fun _ => rfl)) fullShare Y).trans ?_
  iintro ⟨%Y, H⟩
  iexists Rect.glue fam4 fam4_cover Y
  iapply (owns_of_rects (c : Thread nD τ) m fullShare fam4 (fun _ _ => rfl) fam4_disj fam4_cover (Rect.glue fam4 fam4_cover Y))
  rw [bigSep_congr fun t _ => congrArg (owns (c : Thread nD τ) (m.slice (fam4 t) (fun _ => rfl)) fullShare) (funext fun y => Rect.glue_emb fam4 fam4_cover fam4_disj Y t y)]
  iexact H

/-- the gathered array is the device's own totals and those of its last partners. -/
theorem gath_join (q : PosShare TreeShare) :
    iprop(four (fun h ch => ownsTc c (gathB (kept h c ch) h) q (msg A B c (h, 4, ch)))
        ∗ four (fun h ch => ownsTc c (gathB (away h c ch) h) q (msg A B (peer c (h, 4, ch)) (h, 4, ch)))) ⊢ ownsTc c gathM q (gAll A B c) := by
  refine BIBase.Entails.trans ?_ (owns_of_rects (c : Thread nD τ) gathM q fam4 (fun _ _ => rfl) fam4_disj fam4_cover (gAll A B c))
  rw [bigSep_congr fun t _ => congrArg (owns (c : Thread nD τ) (gathM.slice (fam4 t) (fun _ => rfl)) q) (funext fun y => gAll_block A B c t y), bigSep_rows4 c]
  simp only [gBlock_kept, gBlock_away]
  exact .rfl
theorem gath_split (q : PosShare TreeShare) :
    ownsTc c gathM q (gAll A B c) ⊢ iprop(four (fun h ch => ownsTc c (gathB (kept h c ch) h) q (msg A B c (h, 4, ch)))
        ∗ four (fun h ch => ownsTc c (gathB (away h c ch) h) q (msg A B (peer c (h, 4, ch)) (h, 4, ch)))) := by
  refine BIBase.Entails.trans (owns_rects (c : Thread nD τ) gathM q fam4 (fun _ _ => rfl) fam4_disj fam4_cover (gAll A B c)) ?_
  rw [bigSep_congr fun t _ => congrArg (owns (c : Thread nD τ) (gathM.slice (fam4 t) (fun _ => rfl)) q) (funext fun y => gAll_block A B c t y), bigSep_rows4 c]
  simp only [gBlock_kept, gBlock_away]
  exact .rfl

/-! ## The phases -/

/-- An exchange's step of one of the first three exchanges: take what landed, add it, send the sum on. -/
def midAt (c : Dev nD) (s : Fin 3) (h ch : Fin 2) : Prog (TpuEff nD τ sig (Elt F) Λ₀ .tc) PUnit := do
  pTake8 h s.castSucc ch; addAt c h s ch; pPut8 (peer c (h, s.succ.castSucc, ch)) h s.succ ch
/-- The fourth exchange's step. -/
def endAt (c : Dev nD) (h ch : Fin 2) : Prog (TpuEff nD τ sig (Elt F) Λ₀ .tc) PUnit := do
  pTake8 h 3 ch; lastAt c h ch; putAt c h ch

/-- The body as a sequence of phases. -/
def phases (c : Dev nD) : Prog (TpuEff nD τ sig (Elt F) Λ₀ .tc) PUnit := do
  pGreet (part 0 c)
  pGreet (part 1 c)
  pGreet (part 2 c)
  pGreet (part 3 c)
  fillAt c 0 0
  pMeet
  pPut8 (peer c (0, 0, 0)) 0 0 0
  fillAt c 1 0
  pPut8 (peer c (1, 0, 0)) 1 0 0
  fillAt c 0 1
  pPut8 (peer c (0, 0, 1)) 0 0 1
  fillAt c 1 1
  pPut8 (peer c (1, 0, 1)) 1 0 1
  keepAt c 0
  keepAt c 1
  seq4 (midAt c 0)
  seq4 (midAt c 1)
  seq4 (midAt c 2)
  seq4 (endAt c)
  seq4 (takeAt c)
  pFin
  seq4 (fun h ch => pBack8 h 0 ch)
  seq4 (fun h ch => pBack8 h 1 ch)
  seq4 (fun h ch => pBack8 h 2 ch)
  seq4 (fun h ch => pBack8 h 3 ch)
  seq4 (backAt c)
  pure ⟨⟩

theorem closed_phases (c : Dev nD) : closed (F := F) c = phases c := by
  unfold phases seq4 midAt endAt closed
  simp only [bind_assoc, bind_pure_unit]
  rfl

/-- What a step of the first three exchanges leaves: the new sum, the landing semaphore at zero with its block, and the
    next transfer on its way. -/
theorem run_mid (s : Fin 3) (h ch : Fin 2) (l : List Msg) (hl : ∀ i ∈ l, s.val < i.2.1.val) (p : PUnit → Prog (TpuEff nD τ sig (Elt F) Λ₀ .tc) PUnit) :
    iprop(known A B K ∗ owesX c (owedL c ((h, s.succ.castSucc, ch) :: l))
        ∗ (ownsTc c (outB (kept h c ch) h) fullShare (acc A B c h s.castSucc.castSucc ch) ∗ hold c (h, s.castSucc.castSucc, ch)
          ∗ free c (sendB (row8 s.succ ch) h) ∗ slot c (h, s.succ.castSucc, ch))
        ∗ ((owesX c (owedL c l) ∗ (ownsTc c (outB (kept h c ch) h) fullShare (acc A B c h s.succ.castSucc ch) ∗ semVal (recvCell c (h, s.castSucc.castSucc, ch)) 0
          ∗ free c (commB (row8 s.castSucc ch) h) ∗ flying c (h, s.succ.castSucc, ch))) -∗ run c (p ⟨⟩) Q))
      ⊢ run c (midAt c s h ch >>= p) Q := by
  unfold midAt
  simp only [bind_assoc]
  iintro ⟨#HK, HO, ⟨Ho, Hh, Hs, Hd⟩, Hk⟩
  iapply (run_take8 A B K h s.castSucc ch ((h, s.succ.castSucc, ch) :: l) (by
    intro i hi
    rcases List.mem_cons.mp hi with rfl | hi
    · show s.val < s.val + 1; omega
    · exact hl i hi))
  isplitr; · iexact HK
  isplitl [HO]; · iexact HO
  isplitl [Hh]; · iexact Hh
  iintro ⟨HO, Hz, Hc⟩
  iapply (run_add A B h s ch)
  isplitl [Ho]; · iexact Ho
  isplitl [Hc]; · iexact Hc
  isplitl [Hs]; · iexact Hs
  iintro ⟨Ho, Hc, Hs⟩
  iapply (run_put8 A B K h s.succ ch l)
  isplitr; · iexact HK
  isplitl [HO]; · iexact HO
  isplitl [Hd]; · iexact Hd
  isplitl [Hs]; · iexact Hs
  iintro ⟨HO, Hf⟩
  iapply Hk
  isplitl [HO]; · iexact HO
  isplitl [Ho]; · iexact Ho
  isplitl [Hz]; · iexact Hz
  isplitl [Hc]; · iapply free_of; iexact Hc
  iexact Hf

/-- What a step of the fourth exchange leaves. -/
theorem run_end (h ch : Fin 2) (l : List Msg) (hl : ∀ i ∈ l, 3 < i.2.1.val) (p : PUnit → Prog (TpuEff nD τ sig (Elt F) Λ₀ .tc) PUnit) :
    iprop(known A B K ∗ owesX c (owedL c ((h, 4, ch) :: l))
        ∗ (ownsTc c (outB (kept h c ch) h) fullShare (acc A B c h 3 ch) ∗ hold c (h, 3, ch)
          ∗ free c (gathB (kept h c ch) h) ∗ slot c (h, 4, ch))
        ∗ ((owesX c (owedL c l) ∗ (free c (outB (kept h c ch) h) ∗ semVal (recvCell c (h, 3, ch)) 0
          ∗ free c (commB (row8 3 ch) h) ∗ flying c (h, 4, ch) ∗ ownsTc c (gathB (kept h c ch) h) fullShare.right (msg A B c (h, 4, ch)))) -∗ run c (p ⟨⟩) Q))
      ⊢ run c (endAt c h ch >>= p) Q := by
  unfold endAt
  simp only [bind_assoc]
  iintro ⟨#HK, HO, ⟨Ho, Hh, Hs, Hd⟩, Hk⟩
  iapply (run_take8 A B K h 3 ch ((h, 4, ch) :: l) (by
    intro i hi
    rcases List.mem_cons.mp hi with rfl | hi
    · show 3 < 4; omega
    · exact hl i hi))
  isplitr; · iexact HK
  isplitl [HO]; · iexact HO
  isplitl [Hh]; · iexact Hh
  iintro ⟨HO, Hz, Hc⟩
  iapply (run_total A B h ch)
  isplitl [Ho]; · iexact Ho
  isplitl [Hc]; · iexact Hc
  isplitl [Hs]; · iexact Hs
  iintro ⟨Ho, Hc, Hs⟩
  iapply (run_put4 A B K h ch l)
  isplitr; · iexact HK
  isplitl [HO]; · iexact HO
  isplitl [Hd]; · iexact Hd
  isplitl [Hs]; · iexact Hs
  iintro ⟨HO, Hf, Hr⟩
  iapply Hk
  isplitl [HO]; · iexact HO
  isplitl [Ho]; · iapply free_of; iexact Ho
  isplitl [Hz]; · iexact Hz
  isplitl [Hc]; · iapply free_of; iexact Hc
  isplitl [Hf]; · iexact Hf
  iexact Hr

/-- The phases of exchanges: one of the first three, -/
theorem run_mids (s : Fin 3) (l : List Msg) (hl : ∀ i ∈ l, s.val + 1 < i.2.1.val) (p : PUnit → Prog (TpuEff nD τ sig (Elt F) Λ₀ .tc) PUnit) :
    iprop(known A B K ∗ owesX c (owedL c ((0, s.succ.castSucc, 0) :: (1, s.succ.castSucc, 0) :: (0, s.succ.castSucc, 1) :: (1, s.succ.castSucc, 1) :: l))
        ∗ four (fun h ch => iprop(ownsTc c (outB (kept h c ch) h) fullShare (acc A B c h s.castSucc.castSucc ch) ∗ hold c (h, s.castSucc.castSucc, ch)
          ∗ free c (sendB (row8 s.succ ch) h) ∗ slot c (h, s.succ.castSucc, ch)))
        ∗ ((owesX c (owedL c l) ∗ four (fun h ch => iprop(ownsTc c (outB (kept h c ch) h) fullShare (acc A B c h s.succ.castSucc ch)
          ∗ semVal (recvCell c (h, s.castSucc.castSucc, ch)) 0 ∗ free c (commB (row8 s.castSucc ch) h) ∗ flying c (h, s.succ.castSucc, ch)))) -∗ run c (p ⟨⟩) Q))
      ⊢ run c (seq4 (midAt c s) >>= p) Q := by
  have hn (h ch : Fin 2) : s.val < ((h, s.succ.castSucc, ch) : Msg).2.1.val := Nat.lt_succ_self s.val
  have h3 : ∀ i ∈ l, s.val < i.2.1.val := fun i hi => Nat.lt_of_succ_lt (hl i hi)
  have hc {l' : List Msg} {j : Msg} (hj : s.val < j.2.1.val) (hl' : ∀ i ∈ l', s.val < i.2.1.val) : ∀ i ∈ j :: l', s.val < i.2.1.val :=
    List.forall_mem_cons.mpr ⟨hj, hl'⟩
  have h2 := hc (hn 1 1) h3
  have h1 := hc (hn 0 1) h2
  have h0 := hc (hn 1 0) h1
  exact run_seq4 A B K (run_mid A B K s 0 0 _ h0) (run_mid A B K s 1 0 _ h1) (run_mid A B K s 0 1 _ h2) (run_mid A B K s 1 1 _ h3) p

/-- the fourth; -/
theorem run_ends (p : PUnit → Prog (TpuEff nD τ sig (Elt F) Λ₀ .tc) PUnit) :
    iprop(known A B K ∗ owesX c (owedL c [(0, 4, 0), (1, 4, 0), (0, 4, 1), (1, 4, 1)])
        ∗ four (fun h ch => iprop(ownsTc c (outB (kept h c ch) h) fullShare (acc A B c h 3 ch) ∗ hold c (h, 3, ch)
          ∗ free c (gathB (kept h c ch) h) ∗ slot c (h, 4, ch)))
        ∗ ((owesX c (owedL c []) ∗ four (fun h ch => iprop(free c (outB (kept h c ch) h) ∗ semVal (recvCell c (h, 3, ch)) 0
          ∗ free c (commB (row8 3 ch) h) ∗ flying c (h, 4, ch) ∗ ownsTc c (gathB (kept h c ch) h) fullShare.right (msg A B c (h, 4, ch))))) -∗ run c (p ⟨⟩) Q))
      ⊢ run c (seq4 (endAt c) >>= p) Q :=
  run_seq4 A B K (run_end A B K 0 0 _ (by decide)) (run_end A B K 1 0 _ (by decide)) (run_end A B K 0 1 _ (by decide)) (run_end A B K 1 1 _ (by decide)) p

/-- the waits for the landings of the last exchange, -/
theorem run_takes (p : PUnit → Prog (TpuEff nD τ sig (Elt F) Λ₀ .tc) PUnit) :
    iprop(known A B K ∗ owesX c (owedL c []) ∗ four (fun h ch => hold c (h, 4, ch))
        ∗ ((owesX c (owedL c []) ∗ four (fun h ch => iprop(semVal (recvCell c (h, 4, ch)) 0
          ∗ ownsTc c (gathB (away h c ch) h) fullShare (msg A B (peer c (h, 4, ch)) (h, 4, ch))))) -∗ run c (p ⟨⟩) Q))
      ⊢ run c (seq4 (takeAt c) >>= p) Q :=
  run_seq4 A B K (fun _ => run_take4 A B K 0 0) (fun _ => run_take4 A B K 1 0) (fun _ => run_take4 A B K 0 1) (fun _ => run_take4 A B K 1 1) p

/-- for the sources of the first four, -/
theorem run_backs8 (s : Fin 4) (p : PUnit → Prog (TpuEff nD τ sig (Elt F) Λ₀ .tc) PUnit) :
    iprop(known A B K ∗ owesX c (owedL c []) ∗ four (fun h ch => flying c (h, s.castSucc, ch))
        ∗ ((owesX c (owedL c []) ∗ four (fun h ch => iprop(semVal (sendCell c (h, s.castSucc, ch)) 0 ∗ free c (sendB (row8 s ch) h)))) -∗ run c (p ⟨⟩) Q))
      ⊢ run c (seq4 (fun h ch => pBack8 h s ch) >>= p) Q :=
  run_seq4 A B K (fun _ => run_back8 A B K 0 s 0) (fun _ => run_back8 A B K 1 s 0) (fun _ => run_back8 A B K 0 s 1) (fun _ => run_back8 A B K 1 s 1) p

/-- and for those of the last. -/
theorem run_backs4 (p : PUnit → Prog (TpuEff nD τ sig (Elt F) Λ₀ .tc) PUnit) :
    iprop(known A B K ∗ owesX c (owedL c []) ∗ four (fun h ch => flying c (h, 4, ch))
        ∗ ((owesX c (owedL c []) ∗ four (fun h ch => iprop(semVal (sendCell c (h, 4, ch)) 0
          ∗ ownsTc c (gathB (kept h c ch) h) fullShare.left (msg A B c (h, 4, ch))))) -∗ run c (p ⟨⟩) Q))
      ⊢ run c (seq4 (backAt c) >>= p) Q :=
  run_seq4 A B K (fun _ => run_back4 A B K 0 0) (fun _ => run_back4 A B K 1 0) (fun _ => run_back4 A B K 0 1) (fun _ => run_back4 A B K 1 1) p

end Cert.HyperSum

end
-- ==== Proof.Body.lean ====
/-
# The body of one device

From its own arrays, its places at its semaphores and the rights to raise its partners', a device's body runs to its block
of the result, with all its semaphores at zero and its arrays whole again.
-/
module

public import proofs.«01_k».proof.Proof.Phases

@[expose] public section

noncomputable section

namespace Cert.HyperSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {Q : PUnit.{1} → sProp (MT nD τ sig Unit (Elt F) ℕ UU ℕ)} {c : Dev nD}
variable (A : Dev nD → Vec F S512x256 .f32) (B : Dev nD → Vec F S256x512 .f32) (K : Dev nD × Cell → ℕ)

/-! ## Landing blocks for the partners -/

/-- Something for each direction. -/
theorem bigSep_dirs (P : Fin 4 → sProp 𝕄) : bigSep Finset.univ P = iprop(P 0 ∗ P 1 ∗ P 2 ∗ P 3) := by
  rw [bigSep_univ_eq_bigSepL [(0 : Fin 4), 1, 2, 3] (by decide) (by decide)]
  rw [bigSepL_cons_cons, bigSepL_cons_cons, bigSepL_cons_cons, bigSepL_singleton]
  rfl

theorem barPay_given (c : Dev nD) :
    (bigSep Finset.univ fun k => barPay (F := F) (part k c) k) = bigSep Finset.univ fun j : Msg => free c (dstM (peer c j) j) := by
  have hu : (Finset.univ : Finset Msg) = Finset.univ.biUnion fun k : Fin 4 => Finset.univ.filter fun j : Msg => cls j.1 j.2.1 = k := by decide
  rw [hu, bigSep_biUnion_eq _ _ _ (fun k _ k' _ hk => Finset.disjoint_filter.mpr fun j _ e e' => hk (e.symm.trans e'))]
  refine bigSep_congr fun k _ => ?_
  unfold barPay
  refine bigSep_congr fun j hj => ?_
  have e := (Finset.mem_filter.mp hj).2
  subst e; rw [part_part]; rfl

/-- A device's landing array and the blocks of the last exchange's array that it doesn't keep are what it offers its partners. -/
theorem offers (c : Dev nD) :
    iprop(free c commM ∗ four (fun h ch => free c (gathB (away h c ch) h))) ⊢ (bigSep Finset.univ fun k => barPay (F := F) (part k c) k) := by
  rw [barPay_given, bigSep_msgs]
  simp only [dstM_last, kept_peer_last]
  iintro ⟨Hc, Hg⟩
  ihave H := (free_split8.trans (Entails.of_eq (bigSep_rows8 _))) $$ Hc
  icases H with ⟨H0, H1, H2, H3⟩
  isplitl [H0]; · iexact H0
  isplitl [H1]; · iexact H1
  isplitl [H2]; · iexact H2
  isplitl [H3]; · iexact H3
  iexact Hg

/-- What a device's transfers need. -/
theorem slots (c : Dev nD) :
    iprop(bigSep Finset.univ (fun j : Msg => toks c j) ∗ bigSep Finset.univ (fun j : Msg => atPos ER (sendCell c j) 0 ∅ 0)
        ∗ bigSep Finset.univ (fun j : Msg => iprop(∃ Y, ownsTc (peer c j) (dstM c j) fullShare Y)))
      ⊢ (iprop(four (fun h ch => slot c (h, 0, ch)) ∗ four (fun h ch => slot c (h, 1, ch)) ∗ four (fun h ch => slot c (h, 2, ch))
        ∗ four (fun h ch => slot c (h, 3, ch)) ∗ four (fun h ch => slot c (h, 4, ch))) : sProp 𝕄) := by
  rw [← bigSep_sep', ← bigSep_sep', ← bigSep_msgs]
  exact .rfl

/-! ## The kept blocks of the result after the first products -/

theorem quadrant_disj (c : Dev nD) : Disjoint (rectQ (bit 0 c) 0).set (rectQ (bit 1 c) 1).set :=
  Rect.unit_disjoint 1 (Or.inl (by show 256 * 0 + 256 ≤ 256 * 1; omega))

theorem kept_emb (c : Dev nD) (h ch : Fin 2) (y : S128x256.Idx) :
    (rect4 (kept h c ch) h).emb y = (rectQ (bit h c) h).emb ((rectSub ch).emb y) := by
  funext a
  refine Fin.ext ?_
  simp only [Rect.emb_apply]
  revert a
  refine Fin.forall_fin_two.mpr ⟨?_, ?_⟩
  · show 128 * (2 * (bit h c).val + ch.val) + 1 * (y 0).val = 256 * (bit h c).val + 1 * (128 * ch.val + 1 * (y 0).val); omega
  · show 256 * h.val + 1 * (y 1).val = 256 * h.val + 1 * (0 + 1 * (y 1).val); omega

/-- An array whose kept quadrants hold the products is its blocks, the kept ones at the products. -/
theorem out_split (X : S512x512.Idx → Elt F .f32) (hX : ∀ h y, X ((rectQ (bit h c) h).emb y) = keepV (aKeep A c h) (bHalf B c h) y) :
    ownsTc c outM fullShare X ⊢ iprop(four (fun h ch => ownsTc c (outB (kept h c ch) h) fullShare (acc A B c h 0 ch)) ∗ four (fun h ch => free c (outB (away h c ch) h))) := by
  refine BIBase.Entails.trans (owns_rects (c : Thread nD τ) outM fullShare fam4 (fun _ _ => rfl) fam4_disj fam4_cover X) ?_
  rw [bigSep_rows4 c]
  iintro ⟨Hk, Ha⟩
  isplitl [Hk]
  · iapply (four_mono fun h ch => Entails.of_eq (congrArg (ownsTc c (outB (kept h c ch) h) fullShare)
      (funext fun y => (congrArg X (kept_emb c h ch y)).trans (hX h ((rectSub ch).emb y)))))
    iexact Hk
  · iapply (four_mono fun h ch => free_of (X := fun y => X ((rect4 (away h c ch) h).emb y)))
    iexact Ha

/-! ## The body -/

/-- What the body starts from: what the device owes, its places, its rights and its arrays. -/
def before (c : Dev nD) : sProp 𝕄 :=
  iprop(owesX c (O₀ c) ∗ atPos ER (barCell c) 0 ∅ 0 ∗ cred (tallyAt (barCell c) () 4)
    ∗ (bigSep Finset.univ fun k : Fin 4 => dutyTok ER (barCell (part k c)) 0 k)
    ∗ bigSep Finset.univ (fun j : Msg => toks c j) ∗ bigSep Finset.univ (fun j : Msg => atPos ER (sendCell c j) 0 ∅ 0)
    ∗ bigSep Finset.univ (fun j : Msg => hold c j)
    ∗ ownsTc c aM fullShare (A c) ∗ ownsTc c bM fullShare (B c) ∗ free c outM ∗ free c commM ∗ free c sendM ∗ free c gathM)

/-- And what it leaves. -/
def after (c : Dev nD) : sProp 𝕄 :=
  iprop(owesX c 0 ∗ semVal (barCell c) 0
    ∗ bigSep Finset.univ (fun j : Msg => semVal (sendCell c j) 0) ∗ bigSep Finset.univ (fun j : Msg => semVal (recvCell c j) 0)
    ∗ ownsTc c aM fullShare (A c) ∗ ownsTc c bM fullShare (B c) ∗ ownsTc c outM fullShare (outAt A B c)
    ∗ free c commM ∗ free c sendM ∗ free c gathM)

theorem run_phases : iprop(known A B K ∗ before A B c ∗ (after A B c -∗ Q ⟨⟩)) ⊢ run c (phases c) Q := by
  have m0 := fun p => run_mids (Q := Q) (c := c) A B K 0 (order.drop 8) (by decide) p
  have m1 := fun p => run_mids (Q := Q) (c := c) A B K 1 (order.drop 12) (by decide) p
  have m2 := fun p => run_mids (Q := Q) (c := c) A B K 2 (order.drop 16) (by decide) p
  have e0 := fun p => run_ends (Q := Q) (c := c) A B K p
  have t0 := fun p => run_takes (Q := Q) (c := c) A B K p
  have b0 := fun s p => run_backs8 (Q := Q) (c := c) A B K s p
  have b4 := fun p => run_backs4 (Q := Q) (c := c) A B K p
  simp only [four_sep] at m0 m1 m2 e0 t0 b0 b4
  unfold phases before O₀
  rw [bigSep_msgs (fun j => hold c j), bigSep_dirs (fun k : Fin 4 => dutyTok ER (barCell (part k c)) 0 k)]
  iintro ⟨#HK, ⟨HO, HatB, HcB, ⟨T0, T1, T2, T3⟩, Htok, Hat, ⟨D0, D1, D2, D3, D4⟩, Ha, Hb, Hout, Hcomm, Hsend, Hgath⟩, Hk⟩
  -- the arrays in blocks; the landing blocks go to the partners with the barrier units
  ihave H := (free_split8.trans (Entails.of_eq (bigSep_rows8 _))) $$ Hsend
  icases H with ⟨S0, S1, S2, S3⟩
  ihave H := (free_split4.trans (Entails.of_eq (bigSep_rows4 c _))) $$ Hgath
  icases H with ⟨G4, Gaway⟩
  ihave H := ((offers c).trans (Entails.of_eq (bigSep_dirs _))) $$ [Hcomm Gaway]
  · isplitl [Hcomm]; · iexact Hcomm
    iexact Gaway
  icases H with ⟨P0, P1, P2, P3⟩
  iapply (run_greet A B K 0 _)
  isplitr; · iexact HK
  isplitl [HO]; · iexact HO
  isplitl [T0]; · iexact T0
  isplitl [P0]; · iexact P0
  iintro HO
  iapply (run_greet A B K 1 _)
  isplitr; · iexact HK
  isplitl [HO]; · iexact HO
  isplitl [T1]; · iexact T1
  isplitl [P1]; · iexact P1
  iintro HO
  iapply (run_greet A B K 2 _)
  isplitr; · iexact HK
  isplitl [HO]; · iexact HO
  isplitl [T2]; · iexact T2
  isplitl [P2]; · iexact P2
  iintro HO
  iapply (run_greet A B K 3 _)
  isplitr; · iexact HK
  isplitl [HO]; · iexact HO
  isplitl [T3]; · iexact T3
  isplitl [P3]; · iexact P3
  iintro HO
  -- the first fill, the barrier, and the first exchange's transfers
  ihave H := (Entails.of_eq (four_eq _)) $$ S0
  icases H with ⟨S00, S10, S01, S11⟩
  iapply (run_fill A B 0 0)
  isplitl [Ha]; · iexact Ha
  isplitl [Hb]; · iexact Hb
  isplitl [S00]; · iexact S00
  iintro ⟨Ha, Hb, S00⟩
  iapply (run_meet A B K order)
  isplitr; · iexact HK
  isplitl [HO]; · iexact HO
  isplitl [HatB]; · iexact HatB
  isplitl [HcB]; · iexact HcB
  iintro ⟨HO, HzB, Hl⟩
  ihave H := (slots c) $$ [Htok Hat Hl]
  · isplitl [Htok]; · iexact Htok
    isplitl [Hat]; · iexact Hat
    iexact Hl
  icases H with ⟨L0, L1, L2, L3, L4⟩
  ihave H := (Entails.of_eq (four_eq _)) $$ L0
  icases H with ⟨L00, L10, L01, L11⟩
  iapply (run_put8 A B K 0 0 0 (order.drop 1))
  isplitr; · iexact HK
  isplitl [HO]; · iexact HO
  isplitl [L00]; · iexact L00
  isplitl [S00]; · iexact S00
  iintro ⟨HO, F00⟩
  iapply (run_fill A B 1 0)
  isplitl [Ha]; · iexact Ha
  isplitl [Hb]; · iexact Hb
  isplitl [S10]; · iexact S10
  iintro ⟨Ha, Hb, S10⟩
  iapply (run_put8 A B K 1 0 0 (order.drop 2))
  isplitr; · iexact HK
  isplitl [HO]; · iexact HO
  isplitl [L10]; · iexact L10
  isplitl [S10]; · iexact S10
  iintro ⟨HO, F10⟩
  iapply (run_fill A B 0 1)
  isplitl [Ha]; · iexact Ha
  isplitl [Hb]; · iexact Hb
  isplitl [S01]; · iexact S01
  iintro ⟨Ha, Hb, S01⟩
  iapply (run_put8 A B K 0 0 1 (order.drop 3))
  isplitr; · iexact HK
  isplitl [HO]; · iexact HO
  isplitl [L01]; · iexact L01
  isplitl [S01]; · iexact S01
  iintro ⟨HO, F01⟩
  iapply (run_fill A B 1 1)
  isplitl [Ha]; · iexact Ha
  isplitl [Hb]; · iexact Hb
  isplitl [S11]; · iexact S11
  iintro ⟨Ha, Hb, S11⟩
  iapply (run_put8 A B K 1 0 1 (order.drop 4))
  isplitr; · iexact HK
  isplitl [HO]; · iexact HO
  isplitl [L11]; · iexact L11
  isplitl [S11]; · iexact S11
  iintro ⟨HO, F11⟩
  ihave F0 := (Entails.of_eq (four_eq (fun h ch => flying c (h, (0 : Fin 4).castSucc, ch))).symm) $$ [F00 F10 F01 F11]
  · isplitl [F00]; · iexact F00
    isplitl [F10]; · iexact F10
    isplitl [F01]; · iexact F01
    iexact F11
  -- the products that the device keeps
  ihave H := (show free c outM ⊢ (iprop(∃ Y, ownsTc c outM fullShare Y) : sProp 𝕄) from .rfl) $$ Hout
  icases H with ⟨%X₀, Hout⟩
  iapply (run_keep A B 0 X₀)
  isplitl [Ha]; · iexact Ha
  isplitl [Hb]; · iexact Hb
  isplitl [Hout]; · iexact Hout
  iintro %X₁ %h₁ ⟨Ha, Hb, Hout⟩
  iapply (run_keep A B 1 X₁)
  isplitl [Ha]; · iexact Ha
  isplitl [Hb]; · iexact Hb
  isplitl [Hout]; · iexact Hout
  iintro %X₂ %h₂ ⟨Ha, Hb, Hout⟩
  have hX : ∀ h y, X₂ ((rectQ (bit h c) h).emb y) = keepV (aKeep A c h) (bHalf B c h) y := by
    refine Fin.forall_fin_two.mpr ⟨fun y => ?_, h₂.1⟩
    rw [h₂.2 _ (Finset.disjoint_left.mp (quadrant_disj c) (by rw [← Rect.map_emb_univ]; exact Finset.mem_map_of_mem _ (Finset.mem_univ y)))]
    exact h₁.1 y
  ihave H := (out_split A B X₂ hX) $$ Hout
  icases H with ⟨O4, Oaway⟩
  -- the exchanges
  iapply (m0 _)
  isplitr; · iexact HK
  isplitl [HO]; · iexact HO
  isplitl [O4 D0 S1 L1]
  · isplitl [O4]; · iexact O4
    isplitl [D0]; · iexact D0
    isplitl [S1]; · iexact S1
    iexact L1
  iintro ⟨HO, O4, Z0, C0, F1⟩
  iapply (m1 _)
  isplitr; · iexact HK
  isplitl [HO]; · iexact HO
  isplitl [O4 D1 S2 L2]
  · isplitl [O4]; · iexact O4
    isplitl [D1]; · iexact D1
    isplitl [S2]; · iexact S2
    iexact L2
  iintro ⟨HO, O4, Z1, C1, F2⟩
  iapply (m2 _)
  isplitr; · iexact HK
  isplitl [HO]; · iexact HO
  isplitl [O4 D2 S3 L3]
  · isplitl [O4]; · iexact O4
    isplitl [D2]; · iexact D2
    isplitl [S3]; · iexact S3
    iexact L3
  iintro ⟨HO, O4, Z2, C2, F3⟩
  iapply (e0 _)
  isplitr; · iexact HK
  isplitl [HO]; · iexact HO
  isplitl [O4 D3 G4 L4]
  · isplitl [O4]; · iexact O4
    isplitl [D3]; · iexact D3
    isplitl [G4]; · iexact G4
    iexact L4
  iintro ⟨HO, O4, Z3, C3, F4, G4⟩
  iapply (t0 _)
  isplitr; · iexact HK
  isplitl [HO]; · iexact HO
  isplitl [D4]; · iexact D4
  iintro ⟨HO, Z4, Gaway⟩
  -- the result: the gathered array is read through the halves of its blocks that the device still has
  ihave H := ((four_mono fun h ch => halves).trans (Entails.of_eq (four_sep _ _))) $$ Gaway
  icases H with ⟨Gl, Gr⟩
  ihave G := (gath_join A B (c := c) fullShare.right) $$ [G4 Gr]
  · isplitl [G4]; · iexact G4
    iexact Gr
  ihave Hout := ((Entails.of_eq (bigSep_rows4 c (fun t => free c (outM.slice (fam4 t) (fun _ => rfl)))).symm).trans free_join4) $$ [O4 Oaway]
  · isplitl [O4]; · iexact O4
    iexact Oaway
  iapply (run_fin A B (q := fullShare.right))
  isplitl [G]; · iexact G
  isplitl [Hout]; · iexact Hout
  iintro ⟨G, Hout⟩
  ihave H := (gath_split A B (c := c) fullShare.right) $$ G
  icases H with ⟨G4, Gr⟩
  -- the sources come back
  iapply (b0 0 _)
  isplitr; · iexact HK
  isplitl [HO]; · iexact HO
  isplitl [F0]; · iexact F0
  iintro ⟨HO, Y0, S0⟩
  iapply (b0 1 _)
  isplitr; · iexact HK
  isplitl [HO]; · iexact HO
  isplitl [F1]; · iexact F1
  iintro ⟨HO, Y1, S1⟩
  iapply (b0 2 _)
  isplitr; · iexact HK
  isplitl [HO]; · iexact HO
  isplitl [F2]; · iexact F2
  iintro ⟨HO, Y2, S2⟩
  iapply (b0 3 _)
  isplitr; · iexact HK
  isplitl [HO]; · iexact HO
  isplitl [F3]; · iexact F3
  iintro ⟨HO, Y3, S3⟩
  iapply (b4 _)
  isplitr; · iexact HK
  isplitl [HO]; · iexact HO
  isplitl [F4]; · iexact F4
  iintro ⟨HO, Y4, G4l⟩
  -- the arrays whole again
  ihave Hg := (gath_join A B (c := c) fullShare.right) $$ [G4 Gr]
  · isplitl [G4]; · iexact G4
    iexact Gr
  ihave Hgl := (gath_join A B (c := c) fullShare.left) $$ [G4l Gl]
  · isplitl [G4l]; · iexact G4l
    iexact Gl
  ihave Hgath := (joined.trans free_of) $$ [Hgl Hg]
  · isplitl [Hgl]; · iexact Hgl
    iexact Hg
  ihave Hcomm := ((Entails.of_eq (bigSep_rows8 (fun t => free c (commM.slice (fam8 t) (fun _ => rfl)))).symm).trans free_join8) $$ [C0 C1 C2 C3]
  · isplitl [C0]; · iexact C0
    isplitl [C1]; · iexact C1
    isplitl [C2]; · iexact C2
    iexact C3
  ihave Hsend := ((Entails.of_eq (bigSep_rows8 (fun t => free c (sendM.slice (fam8 t) (fun _ => rfl)))).symm).trans free_join8) $$ [S0 S1 S2 S3]
  · isplitl [S0]; · iexact S0
    isplitl [S1]; · iexact S1
    isplitl [S2]; · iexact S2
    iexact S3
  unfold run
  rw [wp_pure]; imodintro
  iapply Hk
  unfold after
  rw [bigSep_msgs (fun j => semVal (sendCell c j) 0), bigSep_msgs (fun j => semVal (recvCell c j) 0)]
  isplitl [HO]; · iexact HO
  isplitl [HzB]; · iexact HzB
  isplitl [Y0 Y1 Y2 Y3 Y4]
  · isplitl [Y0]; · iexact Y0
    isplitl [Y1]; · iexact Y1
    isplitl [Y2]; · iexact Y2
    isplitl [Y3]; · iexact Y3
    iexact Y4
  isplitl [Z0 Z1 Z2 Z3 Z4]
  · isplitl [Z0]; · iexact Z0
    isplitl [Z1]; · iexact Z1
    isplitl [Z2]; · iexact Z2
    isplitl [Z3]; · iexact Z3
    iexact Z4
  isplitl [Ha]; · iexact Ha
  isplitl [Hb]; · iexact Hb
  isplitl [Hout]; · iexact Hout
  isplitl [Hcomm]; · iexact Hcomm
  isplitl [Hsend]; · iexact Hsend
  iexact Hgath

theorem run_number (k : Dev nD → Prog (TpuEff nD τ sig (Elt F) Λ₀ .tc) PUnit) : run c (Prog.lift .deviceId >>= k) Q = run c (k c) Q := wp_deviceId ..

/-- The body that is printed, from its start to its end. -/
theorem run_body :
    iprop(known A B K ∗ before A B c ∗ (after A B c -∗ Q ⟨⟩))
      ⊢ run c (cc0_body (F := F) aM (Memref.isWhole_whole _) bM (Memref.isWhole_whole _) outM (Memref.isWhole_whole _)
        commM (Memref.isWhole_whole _) sendM (Memref.isWhole_whole _) gathM (Memref.isWhole_whole _) cc0_scratch3 cc0_scratch4) Q := by
  rw [body_flat, flat_closed, show (closed (F := F)) = phases from funext closed_phases]
  exact (run_phases A B K).trans (Entails.of_eq (run_number phases).symm)

end Cert.HyperSum

end
-- ==== Proof.Setup.lean ====
/-
# The protocol's resources at launch

Each device gets its positions, the tokens of the duties that it discharges, and the credits of the waits that nobody
else's wait pays for: its barrier's and its landings'.
-/
module

public import Idealize.ShloMosaic.Lib.Pipeline.Launch
public import Idealize.ShloMosaic.Lib.Pipeline.Kit
public import proofs.«01_k».proof.Proof.Gen.KernelIdeal.Launch
public import proofs.«01_k».proof.Proof.Body

@[expose] public section

noncomputable section

namespace Cert.HyperSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x256 .f32) (B : Dev nD → Vec F S256x512 .f32)

/-! ## Families over cells and devices -/

/-- Something for each cell of a device: the barrier's, the sending ones', the landing ones'. -/
theorem bigSep_cells (P : Cell → sProp 𝕄) :
    bigSep Finset.univ P = iprop(P none ∗ bigSep Finset.univ (fun j : Msg => P (some (false, j))) ∗ bigSep Finset.univ (fun j : Msg => P (some (true, j)))) := by
  have he : (Finset.univ : Finset Cell).erase none = Finset.univ.map (Function.Embedding.some : Bool × Msg ↪ Cell) := by
    ext k
    rcases k with _ | k
    · simp
    · simp
  have hb (Q : Bool → sProp 𝕄) : bigSep Finset.univ Q = iprop(Q false ∗ Q true) :=
    bigSep_univ_eq_bigSepL [false, true] (by decide) (by decide) Q
  rw [bigSep_univ_split none, he, bigSep_map, bigSep_univ_prod, hb]
  rfl

/-- Something for each device and each member of a second family, moved from device to device by a permutation that may
    depend on the member. -/
theorem deal {J : Type} [Fintype J] [DecidableEq J] (σ : J → Dev nD ≃ Dev nD) (P : Dev nD → J → sProp 𝕄) :
    (bigSep Finset.univ fun c => bigSep Finset.univ fun j => P c j) = bigSep Finset.univ fun c => bigSep Finset.univ fun j => P (σ j c) j := by
  have swap (R : Dev nD → J → sProp 𝕄) :
      (bigSep Finset.univ fun c => bigSep Finset.univ fun j => R c j) = bigSep Finset.univ fun j => bigSep Finset.univ fun c => R c j := by
    rw [← bigSep_univ_prod (fun x : Dev nD × J => R x.1 x.2), ← bigSep_univ_prod (fun x : J × Dev nD => R x.2 x.1),
      bigSep_univ_equiv (Equiv.prodComm J (Dev nD)) (fun x : Dev nD × J => R x.1 x.2)]
    rfl
  rw [swap P, swap fun c j => P (σ j c) j]
  exact bigSep_congr fun j _ => bigSep_univ_equiv (σ j) (fun c => P c j)

/-! ## Cells, tokens -/

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- Four duties for each cell: more than the transfers' semaphores need. -/
abbrev tokOf (x : (Dev nD × Cell) × Fin 4) : GSem nD τ sig × ℕ × Fin 4 := (kcell x.1, 0, x.2)
theorem tokOf_injective : Function.Injective tokOf := by
  rintro ⟨ck, d⟩ ⟨ck', d'⟩ h
  have h1 : ck = ck' := kcell_injective (congrArg Prod.fst h)
  have h2 : d = d' := congrArg (fun y : GSem nD τ sig × ℕ × Fin 4 => y.2.2) h
  rw [h1, h2]

def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The tokens of a device's own cells. -/
def ownToks (c : Dev nD) : sProp 𝕄 := bigSep Finset.univ fun k : Cell => bigSep Finset.univ fun d : Fin 4 => dutyTok ER (kcell (c, k)) 0 d

/-- What the launch deals a device; -/
def G (c : Dev nD) : sProp 𝕄 :=
  iprop((bigSep Finset.univ fun k : Cell => roundState ER (Rd A B) (kcell (c, k)) 0)
    ∗ (bigSep Finset.univ fun k : Cell => iprop(atPos ER (kcell (c, k)) 0 ∅ 0 ∗ reached ER (kcell (c, k)) 0)) ∗ ownToks c)

/-- the tokens of the duties that a device discharges; -/
def payToks (c : Dev nD) : sProp 𝕄 :=
  iprop((bigSep Finset.univ fun k : Fin 4 => dutyTok ER (barCell (part k c)) 0 k) ∗ bigSep Finset.univ fun j : Msg => toks c j)

/-- what stays with a device; -/
def linear (c : Dev nD) : sProp 𝕄 :=
  iprop((bigSep Finset.univ fun k : Cell => atPos ER (kcell (c, k)) 0 ∅ 0) ∗ payToks c)

/-- and all that it starts with. -/
def G' (c : Dev nD) : sProp 𝕄 := iprop(∃ K, records A B K ∗ linear c)

theorem fund_cells : BI.own (ER (initOf allCells allToks)) ⊢ (|==> bigSep Finset.univ (G A B) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod, bigSep_univ_prod]; rfl
  iintro HX
  imod (Rounds.fund ER (Rd A B) allCells allToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Invariants -/

theorem ownSems0_eq (c : Dev nD) : (Pipeline.ownSems0 (Ix := Unit) (Name := ℕ) (U := UU) (Lvl := ℕ) (Val := Elt F) (τ := τ) osem c : sProp 𝕄)
    = iprop(bigSep Finset.univ (fun j : Msg => semVal (sendCell c j) 0) ∗ bigSep Finset.univ (fun j : Msg => semVal (recvCell c j) 0)) := by
  have hb (Q : Bool → sProp 𝕄) : bigSep Finset.univ Q = iprop(Q false ∗ Q true) :=
    bigSep_univ_eq_bigSepL [false, true] (by decide) (by decide) Q
  unfold Pipeline.ownSems0; rw [bigSep_univ_prod, hb]; rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_cells]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (Rd A B) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (Rd A B) (kcell (c, k)) 0)
      ⊢ (|={Set.univ}=> bigSep Finset.univ fun k => iprop(∃ κ : ℕ, cellInv ER (Rd A B) κ (kcell (c, k))) : sProp 𝕄) from by
        rw [← bigSep_sep']
        exact (bigSep_mono fun k _ => (Rounds.body_intro ER (Rd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Of the tokens of its own cells, those that somebody uses. -/
theorem ownToks_used (c : Dev nD) :
    ownToks c ⊢ (iprop((bigSep Finset.univ fun k : Fin 4 => dutyTok ER (barCell c) 0 k)
      ∗ (bigSep Finset.univ fun j : Msg => dutyTok ER (sendCell c j) 0 0) ∗ bigSep Finset.univ fun j : Msg => dutyTok ER (recvCell c j) 0 0) : sProp 𝕄) := by
  unfold ownToks
  rw [bigSep_cells]
  have hs : (bigSep Finset.univ fun j : Msg => bigSep Finset.univ fun d : Fin 4 => dutyTok ER (sendCell c j) 0 d)
      ⊢ (bigSep Finset.univ fun j : Msg => dutyTok ER (sendCell c j) 0 0 : sProp 𝕄) :=
    bigSep_mono fun j _ => bigSep_elim (Φ := fun d : Fin 4 => (dutyTok ER (sendCell c j) 0 d : sProp 𝕄)) (Finset.mem_univ 0)
  have hr : (bigSep Finset.univ fun j : Msg => bigSep Finset.univ fun d : Fin 4 => dutyTok ER (recvCell c j) 0 d)
      ⊢ (bigSep Finset.univ fun j : Msg => dutyTok ER (recvCell c j) 0 0 : sProp 𝕄) :=
    bigSep_mono fun j _ => bigSep_elim (Φ := fun d : Fin 4 => (dutyTok ER (recvCell c j) 0 d : sProp 𝕄)) (Finset.mem_univ 0)
  exact sep_mono_right (Idealize.SL.BI.sep_mono hs hr)

/-- The tokens dealt around: a barrier's to the partners, a landing's to the one that sends it. -/
theorem toks_around : (bigSep Finset.univ fun c : Dev nD => (ownToks c : sProp 𝕄)) ⊢ bigSep Finset.univ fun c : Dev nD => payToks c := by
  refine (bigSep_mono fun c _ => ownToks_used c).trans ?_
  unfold payToks toks
  simp only [bigSep_sep']
  rw [deal turn (fun c k => dutyTok ER (barCell c) 0 k), deal (fun j : Msg => turn (cls j.1 j.2.1)) (fun c j => dutyTok ER (recvCell c j) 0 0)]
  exact BI.Entails.refl _

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem start_of (K : Dev nD × Cell → ℕ) (c : Dev nD) : iprop(records A B K ∗ linear c) ⊢ G' A B c := by
  unfold G'
  iintro H
  iexists K
  iexact H

theorem regroup :
    (bigSep Finset.univ fun c : Dev nD => iprop((bigSep Finset.univ fun k => iprop(∃ κ : ℕ, cellInv ER (Rd A B) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' A B) := by
  rw [bigSep_sep', bigSep_sep', ← bigSep_univ_prod (fun ck : Dev nD × Cell => iprop(∃ κ : ℕ, cellInv ER (Rd A B) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd A B) κ (kcell ck) : sProp 𝕄))) $$ HI
  icases HK with ⟨%K, #HI⟩
  ihave Htk := (toks_around (F := F)) $$ Htok
  iapply (bigSep_with (R := records A B K) fun c _ => start_of A B K c)
  isplitr
  · unfold records; isplitl; · iexact HI
    iexact HR
  · iapply (Entails.of_eq (bigSep_sep' Finset.univ (fun c : Dev nD => bigSep Finset.univ fun k : Cell => (atPos ER (kcell (c, k)) 0 ∅ 0 : sProp 𝕄)) payToks).symm)
    isplitl [Hat]; · iexact Hat
    iexact Htk

/-- All devices' semaphores at once turned into the protocol's. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## Credits -/

theorem kcell_eq_iff (c c' : Dev nD) (k k' : Cell) : kcell (c, k) = kcell (c', k') ↔ c = c' ∧ k = k' :=
  ⟨fun h => Prod.mk.inj (kcell_injective h), fun h => by rw [h.1, h.2]⟩

theorem part_eq_iff (k : Fin 4) (a b : Dev nD) : a = part k b ↔ b = part k a :=
  ⟨fun h => by rw [h, part_part], fun h => by rw [h, part_part]⟩

theorem tally_bar (d c : Dev nD) (k : Fin 4) : (tallyAt (barCell (part k d)) () 1 : CellTallies nD τ sig Unit) (barCell c) () = if d = part k c then 1 else 0 := by
  rw [tallyAt_apply]
  refine if_congr ?_ rfl rfl
  rw [and_iff_left rfl, show (barCell c = barCell (part k d)) = (kcell (c, none) = kcell (part k d, none)) from rfl, kcell_eq_iff, and_iff_left rfl, part_eq_iff]

theorem owedL_bar (d c : Dev nD) (l : List Msg) : owedL d l (barCell c) () = 0 := by
  by_contra h
  obtain ⟨j, -, e⟩ := owedL_pos (Nat.pos_of_ne_zero h)
  exact absurd (congrArg Prod.snd e) (fun e' => by cases e')

theorem owedL_recv (d c : Dev nD) (j : Msg) (l : List Msg) : owedL d l (recvCell c j) () = l.count j * if d = peer c j then N else 0 := by
  induction l with
  | nil => rw [List.count_nil, Nat.zero_mul]; rfl
  | cons i l ih =>
    unfold owedL
    rw [Pi.add_apply, Finsupp.add_apply, ih, List.count_cons, tallyAt_apply, Nat.add_mul]
    congr 1
    have e : (recvCell c j = recvCell (peer d i) i ∧ (() : Unit) = ()) ↔ (i = j ∧ d = peer c j) := by
      rw [and_iff_left rfl, show (recvCell c j = recvCell (peer d i) i) = (kcell (c, some (true, j)) = kcell (peer d i, some (true, i))) from rfl, kcell_eq_iff]
      constructor
      · rintro ⟨h, h'⟩
        have h2 : j = i := congrArg Prod.snd (Option.some.inj h')
        subst h2
        exact ⟨rfl, by rw [h, peer_peer]⟩
      · rintro ⟨rfl, h⟩
        exact ⟨by rw [h, peer_peer], rfl⟩
    rw [if_congr e rfl rfl]
    by_cases hi : i = j
    · subst hi; simp
    · simp [hi]

theorem count_order : ∀ j : Msg, order.count j = 1 := by decide

theorem owed_bar (d c : Dev nD) : O₀ d (barCell c) () = ∑ k : Fin 4, if d = part k c then 1 else 0 := by
  unfold O₀
  rw [Pi.add_apply, Finsupp.add_apply, Pi.add_apply, Finsupp.add_apply, Pi.add_apply, Finsupp.add_apply, Pi.add_apply, Finsupp.add_apply,
    owedL_bar, tally_bar, tally_bar, tally_bar, tally_bar, Fin.sum_univ_four]
  omega

theorem owed_recv (d c : Dev nD) (j : Msg) : O₀ d (recvCell c j) () = if d = peer c j then N else 0 := by
  have h (k : Fin 4) : (tallyAt (barCell (part k d)) () 1 : CellTallies nD τ sig Unit) (recvCell c j) () = 0 := by
    rw [tallyAt_ne_cell (fun h => by have := congrArg Prod.snd h; cases this)]; rfl
  unfold O₀
  rw [Pi.add_apply, Finsupp.add_apply, Pi.add_apply, Finsupp.add_apply, Pi.add_apply, Finsupp.add_apply, Pi.add_apply, Finsupp.add_apply,
    owedL_recv, count_order, h, h, h, h]
  omega

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => Finset.sum_ite_eq' Finset.univ (part k c) fun _ => 1]
  simp

theorem launch_recv (c : Dev nD) (j : Msg) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer c j) fun _ => N,
    if_pos (Finset.mem_univ _)]

/-- The landing semaphores among all. -/
def recvEmb : Msg ↪ SemLoc sig := ⟨fun j => .dma (recvS j).sem, fun i j h => congrArg Prod.snd (Option.some.inj (csem_injective (a₁ := some (true, i)) (a₂ := some (true, j)) h))⟩

theorem creds (c : Dev nD) :
    (Pipeline.launchCred O₀ c : sProp 𝕄) ⊢ iprop(cred (tallyAt (barCell c) () 4) ∗ bigSep Finset.univ fun j : Msg => cred (tallyAt (recvCell c j) () N)) := by
  unfold Pipeline.launchCred
  rw [bigSep_univ_at _ (SemLoc.reg barS), launch_bar]
  refine sep_mono_right ?_
  refine (bigSep_subset (t := Finset.univ.map recvEmb) fun sm hm => ?_).trans ?_
  · obtain ⟨j, -, rfl⟩ := Finset.mem_map.mp hm
    have hn : (SemLoc.dma (recvS j).sem : SemLoc sig) ≠ .reg barS := fun h => by cases h
    exact Finset.mem_erase.mpr ⟨hn, Finset.mem_univ _⟩
  · rw [bigSep_map]
    exact bigSep_mono fun j _ => Entails.of_eq (congrArg cred (launch_recv c j))

end Cert.HyperSum

end
-- ==== Proof.Run.lean ====
/-
# The run

From any memory with counters at zero, the sixteen devices' runs end; each device's result array then holds `outAt`, its
arguments hold what they held, and the counters are at zero again.
-/
module

public import Idealize.ShloMosaic.Lib.Pipeline.CollectiveSegs
public import proofs.«01_k».proof.Proof.Gen.KernelIdeal.Points
public import proofs.«01_k».proof.Proof.Setup

@[expose] public section

noncomputable section

namespace Cert.HyperSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

def s₀ : MemSt nD τ sig (Elt F) := ⟨m, fun _ => 0, ρ⟩

/-! ## What the arguments hold -/

def argA (c : Dev nD) : Vec F S512x256 .f32 := (win0_0.blk (0 : Fin 1)).view.read (Elt F) (m ((c : Thread nD τ).loc main_arg0))
def argB (c : Dev nD) : Vec F S256x512 .f32 := (win0_1.blk (0 : Fin 1)).view.read (Elt F) (m ((c : Thread nD τ).loc main_arg1))

/-! ## The pipeline's data -/

/-- What a device's body starts with besides its arrays. -/
def start (c : Dev nD) : sProp 𝕄 :=
  iprop(G' (argA m) (argB m) c ∗ (cred (tallyAt (barCell c) () 4) ∗ bigSep Finset.univ fun j : Msg => cred (tallyAt (recvCell c j) () N)) ∗ levAts L lv)

/-- The scratch arrays, at any contents. -/
def scratch (c : Dev nD) : sProp 𝕄 := iprop(free c commM ∗ free c sendM ∗ free c gathM)

def Φ₀ (c : Dev nD) : sProp 𝕄 := iprop(start m c ∗ scratch c)

def Φ₁ (c : Dev nD) : sProp 𝕄 :=
  iprop(semVal (barCell c) 0 ∗ bigSep Finset.univ (fun j : Msg => semVal (sendCell c j) 0) ∗ bigSep Finset.univ (fun j : Msg => semVal (recvCell c j) 0)
    ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argA m c
    | ⟨1, _⟩ => argB m c
    | ⟨2, _⟩ => outAt (argA m) (argB m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## Whole buffers -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem scratch_eq (c : Dev nD) : (scratch c : sProp 𝕄) = Pipeline.scopedRest cfg0.spec c := by
  have h (b : Ref sig .tc) : (iprop(∃ X : b.ty.Contents (Elt F), owns (Ix := Unit) (Name := ℕ) (U := UU) (Lvl := ℕ) (c : Thread nD τ) (Memref.whole b) fullShare X) : sProp 𝕄)
      = iprop(∃ f : Buf (Elt F) ((c : Thread nD τ).loc b), ((c : Thread nD τ).loc b) ↦{fullShare} f) := by
    simp only [owns_whole_eq]
    have h1 : iprop(∃ X : b.ty.Contents (Elt F), stg c b X) ⊢ (iprop(∃ f : Buf (Elt F) ((c : Thread nD τ).loc b), ((c : Thread nD τ).loc b) ↦{fullShare} f) : sProp 𝕄) := by
      iintro ⟨%X, %f, -, H⟩; iexists f; iexact H
    have h2 : iprop(∃ f : Buf (Elt F) ((c : Thread nD τ).loc b), ((c : Thread nD τ).loc b) ↦{fullShare} f) ⊢ (iprop(∃ X : b.ty.Contents (Elt F), stg c b X) : sProp 𝕄) := by
      iintro ⟨%f, H⟩; iexists f, f; isplitr; · (ipureintro; rfl)
      iexact H
    exact BI.equiv_iff.mp ⟨h1, h2⟩
  rw [scopedRest0_eq]
  unfold scratch free
  rw [← h cc0_scratch0, ← h cc0_scratch1, ← h cc0_scratch2]
  rfl

/-! ## The body -/

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (argA m c) ∗ stg c cc0_stg1_0 (argB m c)
    ∗ stg c cc0_stg2_0 (outAt (argA m) (argB m) c))

theorem pre_before (c : Dev nD) : bodyPre m ρ c ⊢ (iprop(∃ K, known (argA m) (argB m) K ∗ before (argA m) (argB m) c) : sProp 𝕄) := by
  have hA (d : _) : (dats m ρ 0 c).before (0 : Fin 3) t0_0 d = argA m c := by unfold Dat.before; rw [if_pos (fetch0_0 t0_0)]; rfl
  have hB (d : _) : (dats m ρ 0 c).before (1 : Fin 3) t0_0 d = argB m c := by unfold Dat.before; rw [if_pos (fetch0_1 t0_0)]; rfl
  have hh : (bigSep Finset.univ fun j : Msg => hold (F := F) c j)
      = iprop(bigSep Finset.univ (fun j : Msg => atPos ER (recvCell c j) 0 ∅ 0) ∗ bigSep Finset.univ (fun j : Msg => cred (tallyAt (recvCell c j) () N))) := by
    unfold hold; rw [bigSep_sep']
  unfold bodyPre Φ₀ start G' linear payToks scratch before known
  simp only [hA, hB, ← owns_whole_eq]
  rw [bigSep_cells (fun k : Cell => atPos ER (kcell (c, k)) 0 ∅ 0), hh]
  unfold Dat.owesAt Pipeline.owesWithin owesX
  rw [show (dats m ρ 0 c).owed t0_0.castSucc = O₀ c from rfl]
  iintro ⟨⟨⟨⟨%K, HR, ⟨HaB, HaS, HaV⟩, HtB, Ht⟩, ⟨HcB, HcV⟩, Hlev⟩, Hcomm, Hsend, Hgath⟩, ⟨%W, %hW, HO⟩, ⟨%d0, Ha⟩, ⟨%d1, Hb⟩, ⟨%d2, Hout⟩⟩
  iexists K
  isplitl [HR Hlev]
  · isplitl [HR]; · iexact HR
    iexact Hlev
  isplitl [HO]; · iexists W; iexact HO
  isplitl [HaB]; · iexact HaB
  isplitl [HcB]; · iexact HcB
  isplitl [HtB]; · iexact HtB
  isplitl [Ht]; · iexact Ht
  isplitl [HaS]; · iexact HaS
  isplitl [HaV HcV]
  · isplitl [HaV]; · iexact HaV
    iexact HcV
  isplitl [Ha]; · iexact Ha
  isplitl [Hb]; · iexact Hb
  isplitl [Hout]; · unfold free; iexists _; iexact Hout
  isplitl [Hcomm]; · iexact Hcomm
  isplitl [Hsend]; · iexact Hsend
  iexact Hgath

theorem after_post (c : Dev nD) : after (argA m) (argB m) c ⊢ (bodyPost m ρ c : sProp 𝕄) := by
  unfold bodyPost Φ₁ after scratch
  simp only [← owns_whole_eq]
  unfold Dat.owesAt Pipeline.owesWithin owesX
  rw [show (dats m ρ 0 c).owed t0_0.succ = 0 from rfl]
  iintro ⟨⟨%W, HO⟩, HzB, HzS, HzV, Ha, Hb, Hout, Hcomm, Hsend, Hgath⟩
  isplitl [HzB HzS HzV Hcomm Hsend Hgath]
  · isplitl [HzB]; · iexact HzB
    isplitl [HzS]; · iexact HzS
    isplitl [HzV]; · iexact HzV
    isplitl [Hcomm]; · iexact Hcomm
    isplitl [Hsend]; · iexact Hsend
    iexact Hgath
  isplitl [HO]
  · iexists W
    isplitr; · ipureintro; exact fun _ _ => Or.inl trivial
    iexact HO
  isplitl [Ha]; · iexact Ha
  isplitl [Hb]; · iexact Hb
  iexact Hout

theorem run_whole (c : Dev nD) :
    bodyPre m ρ c ⊢ run (F := F) c (cc0_body (F := F) aM (Memref.isWhole_whole _) bM (Memref.isWhole_whole _) outM (Memref.isWhole_whole _)
        commM (Memref.isWhole_whole _) sendM (Memref.isWhole_whole _) gathM (Memref.isWhole_whole _) cc0_scratch3 cc0_scratch4) (fun _ => bodyPost m ρ c) := by
  have h (K : Dev nD × Cell → ℕ) : iprop(known (argA m) (argB m) K ∗ before (argA m) (argB m) c)
      ⊢ (iprop(known (argA m) (argB m) K ∗ before (argA m) (argB m) c ∗ (after (argA m) (argB m) c -∗ bodyPost m ρ c)) : sProp 𝕄) := by
    iintro ⟨HK, Hb⟩
    isplitl [HK]; · iexact HK
    isplitl [Hb]; · iexact Hb
    iintro Ha
    iapply (after_post m ρ c)
    iexact Ha
  exact (pre_before m ρ c).trans (Laws.exists_elim fun K => (h K).trans (run_body (Q := fun _ => bodyPost m ρ c) (argA m) (argB m) K))

set_option maxRecDepth 200000 in
/-- What the pipeline asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 (F := F) t0_0) (fun _ => bodyPost m ρ c)
  exact run_whole m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argA m) (argB m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq, ownSems0_eq, unscopedSems0_eq]
  unfold Φ₁
  iintro ⟨HzB, HzS, HzV, Hr⟩
  isplitl [HzB]; · iexact HzB
  isplitl [HzS HzV]
  · isplitl [HzS]; · iexact HzS
    iexact HzV
  iexact Hr

theorem stage_not_ours : ∀ (w : Fin cfg0.W) (s : Fin (cfg0.win w).nbuf) (k : Cell), csem k ≠ .dma ((cfg0.win w).sem s) := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (by unfold which; exact dif_neg fun ⟨k, hk⟩ => stage_not_ours w s k hk) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters, every weakly fair execution of the sixteen devices' main
    functions ends, and at every final state the windows' arrays hold what the pipeline's data say and every counter is at
    zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (argA m) (argB m)) (G' := G' (argA m) (argB m)) (u₀ := u₀)
    (hu₀ := by
      unfold u₀
      iintro Hu
      ihave H := (ownU_pair _ _) $$ Hu
      icases H with ⟨HP, HX⟩
      imod (fund_cells (argA m) (argB m)) $$ HX with HG
      imodintro
      isplitl [HP] <;> iassumption)
    (hglob := glob (argA m) (argB m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_a (c : Dev nD) : finalA m ρ c (0 : Fin 3) = m ((c : Thread nD τ).loc main_arg0) :=
  (dats (F := F) m ρ 0 c).arrAt_in (0 : Fin 3) rfl _

/-- The result array. -/
theorem finalA_o (c : Dev nD) :
    (win0_2.blk (0 : Fin 1)).view.read (Elt F) (finalA m ρ c (2 : Fin 3)) = outAt (argA m) (argB m) c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 (0 : Fin 1), if_pos rfl]
  exact View.read_write_univ _ _

theorem finalA_b (c : Dev nD) : finalA m ρ c (1 : Fin 3) = m ((c : Thread nD τ).loc main_arg1) :=
  (dats (F := F) m ρ 0 c).arrAt_in (1 : Fin 3) rfl _

end Cert.HyperSum

end
-- ==== Proof.Frames.lean ====
/-
# The frames

Each program's runs end with its arguments unchanged and its counters at zero.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.HyperSum

open Idealize.ShloMosaic Idealize.SL.Sem

/-! ## The two printed programs are one -/

theorem defs_same {F : FTy → Type} [FloatOps F] : Cert.Kernel.defs (F := F) = Cert.KernelIdeal.defs (F := F) := by
  refine congrArg (Pipeline.defs Cert.KernelIdeal.pcfgs) ?_
  unfold Cert.Kernel.defs₀ Cert.KernelIdeal.defs₀
  refine congrArg Defs.onTc ?_
  funext l x
  match l, x with
  | ⟨0, _⟩, (t, s) => rfl

/-! ## The frames -/

/-- At any float values, and under any name of the body table. -/
theorem frame_any {F : FTy → Type} [FloatOps F] {D : Defs _ _ _ _ _} (hD : D = Cert.KernelIdeal.defs (F := F))
    (m : (ℓ : Loc Cert.KernelIdeal.nD Cert.KernelIdeal.τ Cert.KernelIdeal.sig) → Buf (Elt F) ℓ) (ρ : Dev Cert.KernelIdeal.nD → PrngReg) :
    θ_run D (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  subst hD
  exact (θ_run Cert.KernelIdeal.defs _ _).mono
    (fun _ h => ⟨fun c => ⟨(h.1 c (0 : Fin 3)).trans (finalA_a m ρ c), (h.1 c (1 : Fin 3)).trans (finalA_b m ρ c)⟩, h.2⟩) (run_main m ρ)

/-- The kernel's frame. -/
theorem frame_kernel : Cert.quiescent_Kernel := fun m ρ _ => frame_any (F := Bits) defs_same m ρ

/-- Its frame at the ideal values. -/
theorem frame_kernelIdeal : Cert.quiescent_KernelIdeal := fun m ρ _ => frame_any (F := Ideal) rfl m ρ

/-- The reference's frame: it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

end Cert.HyperSum

end
-- ==== Proof.Value.lean ====
/-
# The value of the result

At the ideal values, where a float is an extended real and a rounding changes nothing: every device's result is the
product of the two whole factors, with its negative entries set to zero.
-/
module

public import proofs.«01_k».proof.Proof.Contents
public import Idealize.ShloMosaic.Lib.MatmulPlain
public import Idealize.ShloMosaic.Lib.IdealHost
public import Idealize.ShloMosaic.Lib.Layout
public import Idealize.ShloMosaic.Lib.Pipeline.Value

@[expose] public section

noncomputable section

namespace Cert.HyperSum

open Cert.KernelIdeal Cert.KernelIdeal.Gen
open Idealize.ShloMosaic Idealize.ShloMosaic.TcCoe
open Idealize.ShloMosaic.ValueIdx
open scoped BigOperators

/-! ## The kernel's arithmetic, entry by entry -/

/-- The block that a device sends first: the product of its two arguments. -/
theorem fillV_apply (a : Vec Ideal S128x256 .f32) (b : Vec Ideal S256x256 .f32) (r : Fin 128) (l : Fin 256) :
    fillV a b (ix2 r l) = ∑ k : Fin 256, a (ix2 r k) * b (ix2 k l) := by
  unfold fillV k0_pay1
  simp only [shapeCast_self]
  refine (Ideal.matmul_plain_apply (φ₁ := .f32) (φ₂ := .f32) none a b (constant S128x256 .f32 0x00000000#32) r l).trans ?_
  show Ideal.ofBits .f32 0x00000000#32 + _ = _
  rw [Ideal.ofBits_zero_f32, zero_add]

/-- The blocks that it keeps: likewise. -/
theorem keepV_apply (a : Vec Ideal S256x256 .f32) (b : Vec Ideal S256x256 .f32) (r l : Fin 256) :
    keepV a b (ix2 r l) = ∑ k : Fin 256, a (ix2 r k) * b (ix2 k l) := by
  unfold keepV k0_pay6
  simp only [shapeCast_self]
  refine (Ideal.matmul_plain_apply (φ₁ := .f32) (φ₂ := .f32) none a b (constant S256x256 .f32 0x00000000#32) r l).trans ?_
  show Ideal.ofBits .f32 0x00000000#32 + _ = _
  rw [Ideal.ofBits_zero_f32, zero_add]

/-- What arrives is added. -/
theorem sumV_apply (v : Vec Ideal S128x256 .f32) (w : Vec Ideal S128x256 .bf16) (y : S128x256.Idx) :
    sumV v w y = (v y + w y : EReal) := by
  unfold sumV k0_pay9 k0_pay8
  simp only [shapeCast_self]
  rfl

/-- And the sum is sent on as it is. -/
theorem roundV_apply (v : Vec Ideal S128x256 .f32) (w : Vec Ideal S128x256 .bf16) (y : S128x256.Idx) :
    roundV v w y = (v y + w y : EReal) := by
  unfold roundV k0_pay10
  simp only [shapeCast_self]
  exact sumV_apply v w y

/-! ## Whose parts a partial sum holds -/

/-- The devices whose parts device `c` has added up before exchange `s`. -/
def reach (h : Fin 2) : Nat → Dev nD → List (Dev nD)
  | 0, c => [c]
  | s + 1, c => reach h s c ++ reach h s (part (cls h (Fin.ofNat 5 s)) c)

/-- After four exchanges these are all devices, each of them once. -/
theorem reach_all (h : Fin 2) (c : Dev nD) : (reach h 4 c).Perm (List.finRange 16) := by revert h c; decide +kernel

variable (A : Dev nD → Vec Ideal S512x256 .f32) (B : Dev nD → Vec Ideal S256x512 .f32)

/-- A device's own contribution to an entry of the product. -/
def own (r l : Fin 512) (d : Dev nD) : EReal := ∑ k : Fin 256, A d (ix2 r k) * B d (ix2 k l)
/-- All devices' contributions to it. -/
def total (r l : Fin 512) : EReal := ∑ d : Fin 16, own A B r l d

theorem reach_total (h : Fin 2) (c : Dev nD) (r l : Fin 512) : ((reach h 4 c).map (own A B r l)).sum = total A B r l := by
  rw [((reach_all h c).map (own A B r l)).sum_eq]
  exact (Fin.sum_univ_def _).symm

/-- An entry of a block, as an entry of the whole result. -/
def rowOf (i : Fin 4) (r : Fin 128) : Fin 512 := ⟨128 * i.val + r.val, by omega⟩
def colOf (h : Fin 2) (l : Fin 256) : Fin 512 := ⟨256 * h.val + l.val, by omega⟩

/-- What a device sends first is its own contribution to the block that it gives away; -/
theorem state_zero_sent (h ch : Fin 2) (c : Dev nD) (r : Fin 128) (l : Fin 256) :
    (state A B h ch 0).2 c (ix2 r l) = own A B (rowOf (away h c ch) r) (colOf h l) c := by
  refine (fillV_apply _ _ r l).trans (Finset.sum_congr rfl fun k _ => ?_)
  refine congrArg₂ (fun u v : EReal => u * v) (congrArg (A c) ?_) (congrArg (B c) ?_) <;> funext a <;> apply Fin.ext
  · match a with
    | ⟨0, _⟩ => show 128 * (away h c ch).val + 1 * r.val = 128 * (away h c ch).val + r.val; omega
    | ⟨1, _⟩ => show 0 + 1 * k.val = k.val; omega
  · match a with
    | ⟨0, _⟩ => show 0 + 1 * k.val = k.val; omega
    | ⟨1, _⟩ => show 256 * h.val + 1 * l.val = 256 * h.val + l.val; omega

/-- what it starts from is its own contribution to the block that it keeps. -/
theorem state_zero_kept (h ch : Fin 2) (c : Dev nD) (r : Fin 128) (l : Fin 256) :
    (state A B h ch 0).1 c (ix2 r l) = own A B (rowOf (kept h c ch) r) (colOf h l) c := by
  have e : (rectSub ch).emb (ix2 r l) = ix2 (n0 := 256) (n1 := 256) ⟨128 * ch.val + r.val, by omega⟩ l := by
    funext a; apply Fin.ext
    match a with
    | ⟨0, _⟩ => show 128 * ch.val + 1 * r.val = 128 * ch.val + r.val; omega
    | ⟨1, _⟩ => show 0 + 1 * l.val = l.val; omega
  show keepV (aKeep A c h) (bHalf B c h) ((rectSub ch).emb (ix2 r l)) = _
  rw [e]
  refine (keepV_apply _ _ _ l).trans (Finset.sum_congr rfl fun k _ => ?_)
  refine congrArg₂ (fun u v : EReal => u * v) (congrArg (A c) ?_) (congrArg (B c) ?_) <;> funext a <;> apply Fin.ext
  · match a with
    | ⟨0, _⟩ =>
      show 256 * (bit h c).val + 1 * (128 * ch.val + r.val) = 128 * (2 * (bit h c).val + ch.val) + r.val
      omega
    | ⟨1, _⟩ => show 0 + 1 * k.val = k.val; omega
  · match a with
    | ⟨0, _⟩ => show 0 + 1 * k.val = k.val; omega
    | ⟨1, _⟩ => show 256 * h.val + 1 * l.val = 256 * h.val + l.val; omega

/-- An exchange adds up what the device holds and what its partner sends. -/
theorem state_step (h ch : Fin 2) (s : Nat) (c : Dev nD) (y : S128x256.Idx) (f : Dev nD → EReal)
    (h1 : (state A B h ch s).1 c y = ((reach h s c).map f).sum)
    (h2 : (state A B h ch s).2 (part (cls h (Fin.ofNat 5 s)) c) y = ((reach h s (part (cls h (Fin.ofNat 5 s)) c)).map f).sum) :
    (state A B h ch (s + 1)).1 c y = ((reach h (s + 1) c).map f).sum
      ∧ (state A B h ch (s + 1)).2 c y = ((reach h (s + 1) c).map f).sum := by
  have e : ((reach h (s + 1) c).map f).sum
      = ((state A B h ch s).1 c y + (state A B h ch s).2 (part (cls h (Fin.ofNat 5 s)) c) y : EReal) := by
    rw [h1, h2]
    show ((reach h s c ++ reach h s (part (cls h (Fin.ofNat 5 s)) c)).map _).sum = _
    rw [List.map_append, List.sum_append]
  exact ⟨(sumV_apply _ _ _).trans e.symm, (roundV_apply _ _ _).trans e.symm⟩

/-- After each of the first four exchanges a device holds, and sends next, the contributions of the devices it has reached. -/
theorem state_succ (h ch : Fin 2) (r : Fin 128) (l : Fin 256) (s : Nat) (hs : s < 4) (c : Dev nD) :
    (state A B h ch (s + 1)).1 c (ix2 r l) = ((reach h (s + 1) c).map (own A B (rowOf (kept h c ch) r) (colOf h l))).sum
      ∧ (state A B h ch (s + 1)).2 c (ix2 r l) = ((reach h (s + 1) c).map (own A B (rowOf (kept h c ch) r) (colOf h l))).sum := by
  induction s generalizing c with
  | zero =>
    refine state_step A B h ch 0 c _ _ ?_ ?_
    · rw [state_zero_kept]; exact (add_zero _).symm
    · have e : away h (part (cls h (Fin.ofNat 5 0)) c) ch = kept h c ch := by
        rw [away_eq]; exact congrArg (fun d => kept h d ch) (peer_peer c (h, 0, ch))
      rw [state_zero_sent, e]; exact (add_zero _).symm
  | succ s ih =>
    have hs' : s < 4 := by omega
    have e : kept h (part (cls h (Fin.ofNat 5 (s + 1))) c) ch = kept h c ch :=
      kept_peer_mid c h ch (Fin.ofNat 5 (s + 1))
        (fun e => by have := congrArg Fin.val e; simp [Fin.ofNat] at this; omega)
        (fun e => by have := congrArg Fin.val e; simp [Fin.ofNat] at this; omega)
    refine state_step A B h ch (s + 1) c _ _ (ih hs' c).1 ?_
    rw [← e]; exact (ih hs' _).2

/-- The last transfer of a device carries a finished block of the product. -/
theorem msg_last (h ch : Fin 2) (c : Dev nD) (r : Fin 128) (l : Fin 256) :
    msg A B c (h, 4, ch) (ix2 r l) = total A B (rowOf (kept h c ch) r) (colOf h l) :=
  ((state_succ A B h ch r l 3 (by decide) c).2).trans (reach_total A B h c _ _)

/-- So every block of the gathered array is finished, -/
theorem gBlock_total (c : Dev nD) (t : Fin 4 × Fin 2) (r : Fin 128) (l : Fin 256) :
    gBlock A B c t (ix2 r l) = total A B (rowOf t.1 r) (colOf t.2 l) := by
  obtain ⟨i, h⟩ := t
  by_cases e : i = kept h c (chunk i)
  · have := gBlock_kept A B c h (chunk i)
    rw [← e] at this
    rw [this, msg_last, ← e]
  · have e' : i = away h c (chunk i) := by revert i h c; decide
    have := gBlock_away A B c h (chunk i)
    rw [← e'] at this
    rw [this, msg_last, kept_peer_last, ← e']

/-- and the whole array is the product. -/
theorem gAll_total (c : Dev nD) (r l : Fin 512) : gAll A B c (ix2 r l) = total A B r l := by
  let t : Fin 4 × Fin 2 := (⟨r.val / 128, by omega⟩, ⟨l.val / 256, by omega⟩)
  let r' : Fin 128 := ⟨r.val % 128, Nat.mod_lt _ (by decide)⟩
  let l' : Fin 256 := ⟨l.val % 256, Nat.mod_lt _ (by decide)⟩
  have er : rowOf t.1 r' = r := Fin.ext (Nat.div_add_mod r.val 128)
  have el : colOf t.2 l' = l := Fin.ext (Nat.div_add_mod l.val 256)
  have e : (fam4 t).emb (ix2 r' l') = ix2 r l := by
    funext a; apply Fin.ext
    match a with
    | ⟨0, _⟩ => show 128 * (r.val / 128) + 1 * (r.val % 128) = r.val; omega
    | ⟨1, _⟩ => show 256 * (l.val / 256) + 1 * (l.val % 256) = l.val; omega
  rw [← e, gAll_block, gBlock_total, er, el]

/-! ## Against the product of the whole factors -/

/-- The sum over the devices of what each contributes from its blocks of two whole factors is their product's entry. -/
theorem total_block (X : Vec Ideal ⟨2, ![512, 4096]⟩ .f32) (Y : Vec Ideal ⟨2, ![4096, 512]⟩ .f32)
    (hA : ∀ c, A c = Layout.block ⟨2, ![512, 256]⟩ ⟨2, ![512, 4096]⟩ 1 16 c X)
    (hB : ∀ c, B c = Layout.block ⟨2, ![256, 512]⟩ ⟨2, ![4096, 512]⟩ 0 16 c Y) (r l : Fin 512) :
    total A B r l = ∑ k : Fin 4096, (X (ix2 r k) * Y (ix2 k l) : EReal) := by
  have e := Equiv.sum_comp (finProdFinEquiv (m := 16) (n := 256)) (fun k => (X (ix2 r k) * Y (ix2 k l) : EReal))
  refine Eq.trans ?_ e
  rw [Fintype.sum_prod_type]
  refine Finset.sum_congr rfl fun d _ => Finset.sum_congr rfl fun k _ => ?_
  rw [hA d, hB d, Layout.block_apply, Layout.block_apply]
  refine congrArg₂ (fun u v : EReal => u * v) (congrArg X ?_) (congrArg Y ?_) <;> funext a <;> apply Fin.ext
  · match a with
    | ⟨0, _⟩ => rfl
    | ⟨1, _⟩ => show d.val * 256 + k.val = k.val + 256 * d.val; omega
  · match a with
    | ⟨0, _⟩ => show d.val * 256 + k.val = k.val + 256 * d.val; omega
    | ⟨1, _⟩ => rfl

/-- Every device's result is the product of the whole factors with its negative entries set to zero. -/
theorem outAt_apply (X : Vec Ideal ⟨2, ![512, 4096]⟩ .f32) (Y : Vec Ideal ⟨2, ![4096, 512]⟩ .f32)
    (hA : ∀ c, A c = Layout.block ⟨2, ![512, 256]⟩ ⟨2, ![512, 4096]⟩ 1 16 c X)
    (hB : ∀ c, B c = Layout.block ⟨2, ![256, 512]⟩ ⟨2, ![4096, 512]⟩ 0 16 c Y) (c : Dev nD) (r l : Fin 512) :
    outAt A B c (ix2 r l)
      = FloatOps.maximumf (F := Ideal) (φ := .f32) (∑ k : Fin 4096, (X (ix2 r k) * Y (ix2 k l) : EReal)) (Scalar.ofBits .f32 0x00000000#32) := by
  rw [← total_block A B X Y hA hB r l, ← gAll_total A B c r l]
  rfl

end Cert.HyperSum

end
-- ==== Proof.Algebraic.lean ====
/-
# The result against the reference

At the ideal values the kernel's result on every device is the reference's.
-/
module

public import proofs.«01_k».proof.Defs
public import proofs.«01_k».proof.Proof.Gen.ReferenceIdeal.Run
public import proofs.«01_k».proof.Proof.Run
public import proofs.«01_k».proof.Proof.Value

@[expose] public section

noncomputable section

namespace Cert.HyperSum

open Idealize.ShloMosaic Idealize.SL.Sem
open Idealize.ShloMosaic.ValueIdx
open scoped BigOperators

/-- The reference's result from the whole factors. -/
def refOut (X : Vec Ideal Cert.ReferenceIdeal.S512x4096 .f32) (Y : Vec Ideal Cert.ReferenceIdeal.S4096x512 .f32) :
    FVec Ideal Cert.ReferenceIdeal.S512x512 .f32 :=
  maximumf (Host.dotGeneral (φ₁ := .f32) (φ₂ := .f32) Cert.ReferenceIdeal.dot_S512x4096_S4096x512_S512x512_1_0_0_1_n_n none X Y)
    (broadcastInDim Cert.ReferenceIdeal.S512x512 ![] Cert.ReferenceIdeal.Gen.bcast_S_S512x512 (constant Cert.ReferenceIdeal.S_ .f32 0x00000000#32))

/-- Its entries: the product's, with the negative ones set to zero. -/
theorem refOut_apply (X : Vec Ideal Cert.ReferenceIdeal.S512x4096 .f32) (Y : Vec Ideal Cert.ReferenceIdeal.S4096x512 .f32) (r l : Fin 512) :
    refOut X Y (ix2 r l)
      = FloatOps.maximumf (F := Ideal) (φ := .f32) (∑ k : Fin 4096, (X (ix2 r k) * Y (ix2 k l) : EReal)) (Scalar.ofBits .f32 0x00000000#32) := by
  have e := Ideal.matmul_plain_apply (φ₁ := .f32) (φ₂ := .f32) none X Y (fun _ => (0 : EReal)) r l
  rw [zero_add] at e
  rw [← e]
  rfl

/-- A device's result is the reference's, when its arguments and the other devices' are the blocks of the reference's. -/
theorem outAt_ref (A : Dev Cert.KernelIdeal.nD → Vec Ideal Cert.KernelIdeal.S512x256 .f32) (B : Dev Cert.KernelIdeal.nD → Vec Ideal Cert.KernelIdeal.S256x512 .f32)
    (X : Vec Ideal Cert.ReferenceIdeal.S512x4096 .f32) (Y : Vec Ideal Cert.ReferenceIdeal.S4096x512 .f32)
    (hA : ∀ c, A c = Layout.block ⟨2, ![512, 256]⟩ ⟨2, ![512, 4096]⟩ 1 16 c X)
    (hB : ∀ c, B c = Layout.block ⟨2, ![256, 512]⟩ ⟨2, ![4096, 512]⟩ 0 16 c Y) (c : Dev Cert.KernelIdeal.nD) :
    outAt A B c = refOut X Y := by
  funext x
  rw [eq_ix2 x]
  exact (outAt_apply A B X Y hA hB c _ _).trans (refOut_apply X Y _ _).symm

/-- The windows show whole arrays: reading one reads its buffer. -/
theorem argA_eq (m : (ℓ : Loc Cert.KernelIdeal.nD Cert.KernelIdeal.τ Cert.KernelIdeal.sig) → Buf (Elt Ideal) ℓ) (c : Dev Cert.KernelIdeal.nD) :
    argA m c = m ((c.tc : Thread Cert.KernelIdeal.nD Cert.KernelIdeal.τ).loc Cert.KernelIdeal.main_arg0) :=
  Memref.read_access_unit_zero (Elt Ideal) Cert.KernelIdeal.main_arg0 (funext fun a => by fin_cases a <;> decide) (fun a => by fin_cases a <;> decide) _
theorem argB_eq (m : (ℓ : Loc Cert.KernelIdeal.nD Cert.KernelIdeal.τ Cert.KernelIdeal.sig) → Buf (Elt Ideal) ℓ) (c : Dev Cert.KernelIdeal.nD) :
    argB m c = m ((c.tc : Thread Cert.KernelIdeal.nD Cert.KernelIdeal.τ).loc Cert.KernelIdeal.main_arg1) :=
  Memref.read_access_unit_zero (Elt Ideal) Cert.KernelIdeal.main_arg1 (funext fun a => by fin_cases a <;> decide) (fun a => by fin_cases a <;> decide) _

/-- The result array holds the result. -/
theorem finalA_out (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) : finalA m ρ c (2 : Fin 3) = outAt (argA m) (argB m) c :=
  (Memref.read_access_unit_zero (Elt Ideal) Cert.KernelIdeal.main_v1 (funext fun a => by fin_cases a <;> decide) (fun a => by fin_cases a <;> decide)
    (finalA m ρ c (2 : Fin 3))).symm.trans (finalA_o m ρ c)

/-- The kernel and the reference compute one value. -/
theorem algebraic : Cert.algebraic_KernelIdeal_ReferenceIdeal := by
  intro m g m' g' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c (2 : Fin 3)).trans ((finalA_out m g c).trans ?_),
      (h.1 c (0 : Fin 3)).trans (finalA_a m g c), (h.1 c (1 : Fin 3)).trans (finalA_b m g c)⟩) (run_main m g)
    exact outAt_ref (argA m) (argB m) _ _ (fun d => (argA_eq m d).trans (hagree d).1) (fun d => (argB_eq m d).trans (hagree d).2) c
  · exact (θ_run Cert.ReferenceIdeal.defs _ _).mono (fun _ h => h 0) (Cert.ReferenceIdeal.Value.run (F := Ideal) m' g')

end Cert.HyperSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.HyperSum.frame_kernel, Cert.HyperSum.frame_kernelIdeal, Cert.HyperSum.frame_referenceIdeal, trivial, Cert.HyperSum.algebraic⟩

end Cert.Proof

end
